-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x128 : Shape := ⟨2, ![4096, 128]⟩
abbrev S4096x4096 : Shape := ⟨2, ![4096, 4096]⟩
abbrev S128 : Shape := ⟨1, ![128]⟩
abbrev S3x128x128 : Shape := ⟨3, ![3, 128, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_

variable [Facts]

def fn_part2 {F : FTy → Type} [FloatOps F] (main_arg7 : FVec F S128 .f32) (main_arg8 : FVec F S3x128x128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S3x128x128 .f32 := Host.absf main_arg8
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  main_v43

def fn_part1 {F : FTy → Type} [FloatOps F] (main_arg4 : FVec F S3x128x128 .f32) (main_arg5 : FVec F S128 .f32) (main_arg6 : FVec F S128 .f32) (main_arg7 : FVec F S128 .f32) (main_arg8 : FVec F S3x128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x128x128 .f32 := Host.absf main_arg4
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S4096x128 .f32) (main_arg1 : FVec F S4096x4096 .f32) (main_arg2 : FVec F S128 .f32) (main_arg3 : FVec F S128 .f32) (main_arg4 : FVec F S3x128x128 .f32) (main_arg5 : FVec F S128 .f32) (main_arg6 : FVec F S128 .f32) (main_arg7 : FVec F S128 .f32) (main_arg8 : FVec F S3x128x128 .f32) (main_arg9 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_v13 main_v16
-- ==== Kernel.lean ====
abbrev S4096x128 : Shape := ⟨2, ![4096, 128]⟩
abbrev S4096x4096 : Shape := ⟨2, ![4096, 4096]⟩
abbrev S128 : Shape := ⟨1, ![128]⟩
abbrev S3x128x128 : Shape := ⟨3, ![3, 128, 128]⟩
abbrev S1x128 : Shape := ⟨2, ![1, 128]⟩
abbrev S256x4096 : Shape := ⟨2, ![256, 4096]⟩
abbrev S256x128 : Shape := ⟨2, ![256, 128]⟩
abbrev S1x128x128 : Shape := ⟨3, ![1, 128, 128]⟩
abbrev S128x128 : Shape := ⟨2, ![128, 128]⟩

abbrev nBuf : Space → Nat
  | .hbm => 17
  | .vmem => 17
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128, .f32⟩
  | .hbm, ⟨3, _⟩ => ⟨S128, .f32⟩
  | .hbm, ⟨4, _⟩ => ⟨S3x128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S3x128x128, .f32⟩
  | .hbm, ⟨9, _⟩ => ⟨S128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S4096x128, .f32⟩
  | .local _ .vmem, ⟨0, _⟩ => ⟨S4096x128, .f32⟩
  | .local _ .vmem, ⟨1, _⟩ => ⟨S256x4096, .f32⟩
  | .local _ .vmem, ⟨2, _⟩ => ⟨S256x4096, .f32⟩
  | .local _ .vmem, ⟨3, _⟩ => ⟨S1x128, .f32⟩
  | .local _ .vmem, ⟨4, _⟩ => ⟨S1x128, .f32⟩
  | .local _ .vmem, ⟨5, _⟩ => ⟨S3x128x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S3x128x128, .f32⟩
  | .local _ .vmem, ⟨10, _⟩ => ⟨S1x128, .f32⟩
  | .local _ .vmem, ⟨11, _⟩ => ⟨S4096x128, .f32⟩
  | .local _ .vmem, ⟨12, _⟩ => ⟨S4096x4096, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11

abbrev nD : Nat := 1
abbrev τ : Topo := Topo.v7x

variable {F : FTy → Type} [FloatOps F]

abbrev grid0 : Pipeline.Grid := ⟨1, ![19], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c256_i32 : BitVec 32 := 256#32
  let v15 : BitVec 32 := Scalar.muli arg0 c256_i32
  let v18 : Index := Scalar.indexCast v15
  let c0_7 : Index := 0#32
  ![v18.toNat, 0]
def k0_off2 (i : grid0.Coords) : Fin 2 → Nat :=
  let arg0 : BitVec 32 := BitVec.ofNat 32 (i 0).val
  let c256_i32 : BitVec 32 := 256#32
  let v15 : BitVec 32 := Scalar.muli arg0 c256_i32
  let v25 : Index := Scalar.indexCast v15
  let c0_10 : Index := 0#32
  ![v25.toNat, 0]
def k0_cond5 (i : grid0.Coords) : BitVec 1 :=
  let arg0 : BitVec 32 := BitVec.ofNat 32 (i 0).val
  let c18_i32 : BitVec 32 := 18#32
  let v9 : BitVec 1 := Scalar.cmpi .eq arg0 c18_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x128 : Shape := ⟨2, ![4096, 128]⟩
abbrev S4096x4096 : Shape := ⟨2, ![4096, 4096]⟩
abbrev S128 : Shape := ⟨1, ![128]⟩
abbrev S3x128x128 : Shape := ⟨3, ![3, 128, 128]⟩
abbrev S_ : Shape := ⟨0, ![]⟩
abbrev S1x128 : Shape := ⟨2, ![1, 128]⟩
abbrev S1x128x128 : Shape := ⟨3, ![1, 128, 128]⟩
abbrev S128x128 : Shape := ⟨2, ![128, 128]⟩

abbrev nBuf : Space → Nat
  | .hbm => 145
  | .vmem => 0
  | .smem => 0
  | _ => 0

abbrev hbmTy0_0 (i : Nat) : BufTy := match i % 128 with
  | 0 => ⟨S4096x128, .f32⟩
  | 1 => ⟨S4096x4096, .f32⟩
  | 2 => ⟨S128, .f32⟩
  | 3 => ⟨S128, .f32⟩
  | 4 => ⟨S3x128x128, .f32⟩
  | 5 => ⟨S128, .f32⟩
  | 6 => ⟨S128, .f32⟩
  | 7 => ⟨S128, .f32⟩
  | 8 => ⟨S3x128x128, .f32⟩
  | 9 => ⟨S128, .f32⟩
  | 10 => ⟨S_, .f32⟩
  | 11 => ⟨S128, .f32⟩
  | 12 => ⟨S_, .f32⟩
  | 13 => ⟨S128, .f32⟩
  | 14 => ⟨S128, .f32⟩
  | 15 => ⟨S_, .i32⟩
  | 16 => ⟨S_, .f32⟩
  | 17 => ⟨S128, .f32⟩
  | 18 => ⟨S1x128, .f32⟩
  | 19 => ⟨S_, .f32⟩
  | 20 => ⟨S1x128, .f32⟩
  | 21 => ⟨S1x128, .f32⟩
  | 22 => ⟨S4096x128, .f32⟩
  | 23 => ⟨S4096x128, .f32⟩
  | 24 => ⟨S4096x128, .f32⟩
  | 25 => ⟨S_, .f32⟩
  | 26 => ⟨S_, .f32⟩
  | 27 => ⟨S_, .f32⟩
  | 28 => ⟨S_, .f32⟩
  | 29 => ⟨S128, .f32⟩
  | 30 => ⟨S128, .f32⟩
  | 31 => ⟨S128, .f32⟩
  | 32 => ⟨S_, .f32⟩
  | 33 => ⟨S_, .i1⟩
  | 34 => ⟨S_, .f32⟩
  | 35 => ⟨S_, .f32⟩
  | 36 => ⟨S128, .f32⟩
  | 37 => ⟨S128, .f32⟩
  | 38 => ⟨S1x128, .f32⟩
  | 39 => ⟨S4096x128, .f32⟩
  | 40 => ⟨S4096x128, .f32⟩
  | 41 => ⟨S_, .f32⟩
  | 42 => ⟨S128, .f32⟩
  | 43 => ⟨S128, .f32⟩
  | 44 => ⟨S128, .f32⟩
  | 45 => ⟨S1x128, .f32⟩
  | 46 => ⟨S4096x128, .f32⟩
  | 47 => ⟨S4096x128, .f32⟩
  | 48 => ⟨S1x128, .f32⟩
  | 49 => ⟨S4096x128, .f32⟩
  | 50 => ⟨S4096x128, .f32⟩
  | 51 => ⟨S1x128, .f32⟩
  | 52 => ⟨S4096x128, .f32⟩
  | 53 => ⟨S4096x128, .f32⟩
  | 54 => ⟨S1x128x128, .f32⟩
  | 55 => ⟨S128x128, .f32⟩
  | 56 => ⟨S4096x128, .f32⟩
  | 57 => ⟨S4096x128, .f32⟩
  | 58 => ⟨S1x128x128, .f32⟩
  | 59 => ⟨S128x128, .f32⟩
  | 60 => ⟨S4096x128, .f32⟩
  | 61 => ⟨S4096x128, .f32⟩
  | 62 => ⟨S4096x128, .f32⟩
  | 63 => ⟨S_, .f32⟩
  | 64 => ⟨S4096x128, .f32⟩
  | 65 => ⟨S4096x128, .f32⟩
  | 66 => ⟨S4096x128, .f32⟩
  | 67 => ⟨S1x128x128, .f32⟩
  | 68 => ⟨S128x128, .f32⟩
  | 69 => ⟨S4096x128, .f32⟩
  | 70 => ⟨S4096x128, .f32⟩
  | 71 => ⟨S1x128, .f32⟩
  | 72 => ⟨S4096x128, .f32⟩
  | 73 => ⟨S4096x128, .f32⟩
  | 74 => ⟨S_, .f32⟩
  | 75 => ⟨S4096x128, .f32⟩
  | 76 => ⟨S4096x128, .f32⟩
  | 77 => ⟨S_, .f32⟩
  | 78 => ⟨S128, .f32⟩
  | 79 => ⟨S_, .f32⟩
  | 80 => ⟨S128, .f32⟩
  | 81 => ⟨S128, .f32⟩
  | 82 => ⟨S_, .i32⟩
  | 83 => ⟨S_, .f32⟩
  | 84 => ⟨S128, .f32⟩
  | 85 => ⟨S1x128, .f32⟩
  | 86 => ⟨S_, .f32⟩
  | 87 => ⟨S1x128, .f32⟩
  | 88 => ⟨S1x128, .f32⟩
  | 89 => ⟨S4096x128, .f32⟩
  | 90 => ⟨S4096x128, .f32⟩
  | 91 => ⟨S4096x128, .f32⟩
  | 92 => ⟨S_, .f32⟩
  | 93 => ⟨S_, .f32⟩
  | 94 => ⟨S_, .f32⟩
  | 95 => ⟨S_, .f32⟩
  | 96 => ⟨S128, .f32⟩
  | 97 => ⟨S128, .f32⟩
  | 98 => ⟨S128, .f32⟩
  | 99 => ⟨S_, .f32⟩
  | 100 => ⟨S_, .i1⟩
  | 101 => ⟨S_, .f32⟩
  | 102 => ⟨S_, .f32⟩
  | 103 => ⟨S128, .f32⟩
  | 104 => ⟨S128, .f32⟩
  | 105 => ⟨S1x128, .f32⟩
  | 106 => ⟨S4096x128, .f32⟩
  | 107 => ⟨S4096x128, .f32⟩
  | 108 => ⟨S_, .f32⟩
  | 109 => ⟨S128, .f32⟩
  | 110 => ⟨S128, .f32⟩
  | 111 => ⟨S128, .f32⟩
  | 112 => ⟨S1x128, .f32⟩
  | 113 => ⟨S4096x128, .f32⟩
  | 114 => ⟨S4096x128, .f32⟩
  | 115 => ⟨S1x128, .f32⟩
  | 116 => ⟨S4096x128, .f32⟩
  | 117 => ⟨S4096x128, .f32⟩
  | 118 => ⟨S1x128, .f32⟩
  | 119 => ⟨S4096x128, .f32⟩
  | 120 => ⟨S4096x128, .f32⟩
  | 121 => ⟨S1x128x128, .f32⟩
  | 122 => ⟨S128x128, .f32⟩
  | 123 => ⟨S4096x128, .f32⟩
  | 124 => ⟨S4096x128, .f32⟩
  | 125 => ⟨S1x128x128, .f32⟩
  | 126 => ⟨S128x128, .f32⟩
  | 127 => ⟨S4096x128, .f32⟩
  | _ => ⟨S4096x128, .f32⟩

abbrev hbmTy0_1 (i : Nat) : BufTy := match i % 128 with
  | 0 => ⟨S4096x128, .f32⟩
  | 1 => ⟨S4096x128, .f32⟩
  | 2 => ⟨S_, .f32⟩
  | 3 => ⟨S4096x128, .f32⟩
  | 4 => ⟨S4096x128, .f32⟩
  | 5 => ⟨S4096x128, .f32⟩
  | 6 => ⟨S1x128x128, .f32⟩
  | 7 => ⟨S128x128, .f32⟩
  | 8 => ⟨S4096x128, .f32⟩
  | 9 => ⟨S4096x128, .f32⟩
  | 10 => ⟨S1x128, .f32⟩
  | 11 => ⟨S4096x128, .f32⟩
  | 12 => ⟨S4096x128, .f32⟩
  | 13 => ⟨S4096x128, .f32⟩
  | 14 => ⟨S_, .f32⟩
  | 15 => ⟨S4096x128, .f32⟩
  | 16 => ⟨S4096x128, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_cst_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_cst_1 : Ref sig .tc := ⟨.hbm, 26, rfl⟩
abbrev main_call0_v8 : Ref sig .tc := ⟨.hbm, 27, rfl⟩
abbrev main_call0_cst_2 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_cst_3 : Ref sig .tc := ⟨.hbm, 32, rfl⟩
abbrev main_call0_v12 : Ref sig .tc := ⟨.hbm, 33, rfl⟩
abbrev main_call0_cst_4 : Ref sig .tc := ⟨.hbm, 34, rfl⟩
abbrev main_call0_call0_v0 : Ref sig .tc := ⟨.hbm, 35, rfl⟩
abbrev main_call0_call0_v1 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_cst_1 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_cst_2 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_call1_cst : Ref sig .tc := ⟨.hbm, 74, rfl⟩
abbrev main_call1_v0 : Ref sig .tc := ⟨.hbm, 75, rfl⟩
abbrev main_v38 : Ref sig .tc := ⟨.hbm, 76, rfl⟩
abbrev main_cst_3 : Ref sig .tc := ⟨.hbm, 77, rfl⟩
abbrev main_v39 : Ref sig .tc := ⟨.hbm, 78, rfl⟩
abbrev main_cst_4 : Ref sig .tc := ⟨.hbm, 79, rfl⟩
abbrev main_v40 : Ref sig .tc := ⟨.hbm, 80, rfl⟩
abbrev main_v41 : Ref sig .tc := ⟨.hbm, 81, rfl⟩
abbrev main_c_5 : Ref sig .tc := ⟨.hbm, 82, rfl⟩
abbrev main_call2_cst : Ref sig .tc := ⟨.hbm, 83, rfl⟩
abbrev main_call2_v0 : Ref sig .tc := ⟨.hbm, 84, rfl⟩
abbrev main_call2_v1 : Ref sig .tc := ⟨.hbm, 85, rfl⟩
abbrev main_call2_cst_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_v6 : Ref sig .tc := ⟨.hbm, 91, rfl⟩
abbrev main_call2_v7 : Ref sig .tc := ⟨.hbm, 92, rfl⟩
abbrev main_call2_cst_1 : Ref sig .tc := ⟨.hbm, 93, rfl⟩
abbrev main_call2_v8 : Ref sig .tc := ⟨.hbm, 94, rfl⟩
abbrev main_call2_cst_2 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_cst_3 : Ref sig .tc := ⟨.hbm, 99, rfl⟩
abbrev main_call2_v12 : Ref sig .tc := ⟨.hbm, 100, rfl⟩
abbrev main_call2_cst_4 : Ref sig .tc := ⟨.hbm, 101, rfl⟩
abbrev main_call2_call0_v0 : Ref sig .tc := ⟨.hbm, 102, rfl⟩
abbrev main_call2_call0_v1 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_cst_6 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_cst_7 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_call3_cst : Ref sig .tc := ⟨.hbm, 142, rfl⟩
abbrev main_call3_v0 : Ref sig .tc := ⟨.hbm, 143, rfl⟩
abbrev main_v78 : Ref sig .tc := ⟨.hbm, 144, rfl⟩

abbrev nD : Nat := 1
abbrev τ : Topo := Topo.v7x

variable {F : FTy → Type} [FloatOps F]
-- ==== Proof.KernelIdeal.Body.lean ====
module

public import proofs.«01_k».proof.Proof.Gen.KernelIdeal.Frame
public import proofs.«01_k».proof.Proof.Gen.KernelIdeal.Skeleton
public import Idealize.ShloMosaic.Lib.WritesUnit
public import Idealize.ShloMosaic.Lib.Pipeline.Value

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The bit the body tests for grid coordinate `k`. -/
abbrev isAt (i : grid0.Coords) (k : BitVec 32) : BitVec 1 :=
  Scalar.cmpi .ne (Scalar.extui (Scalar.cmpi .eq (BitVec.ofNat 32 (i 0).val) k) : BitVec 32) 0#32

/-- The two-coordinate offset at the origin is the zero offset. -/
theorem origin2 : (![0, 0] : Fin 2 → ℕ) = fun _ => 0 := by decide

/-- What a store of a whole memref leaves is the stored value. -/
theorem read_whole {sg : RefSig} {κ : Kind} {sp : Space} {d : Fin 2 → ℕ} {e : EltTy} (v : View sg κ sp ⟨2, d⟩ e)
    (f : v.ty.Contents (Elt F)) (inb) (w : (⟨2, d⟩ : Shape).Idx → Elt F e) :
    v.read (Elt F) (v.writes (Elt F) f [⟨Rect.unit (s := ⟨2, d⟩) ![0, 0] d inb, w⟩]) = w := by
  funext y
  exact View.read_writes_cons_unit_of_mem v f inb w [] y y origin2 fun a => (Nat.zero_add _).symm

/-- What a load of a whole memref reads is what the memref holds. -/
theorem load_whole {sg : RefSig} {κ : Kind} {sp : Space} {d : Fin 2 → ℕ} {e : EltTy} (v : View sg κ sp ⟨2, d⟩ e)
    (f : v.ty.Contents (Elt F)) (inb) :
    v.readAt (Elt F) (Rect.unit (s := ⟨2, d⟩) ![0, 0] d inb).toLoadRect f = v.read (Elt F) f := by
  rw [View.readAt_eq_ld]
  exact View.ld_unit_zero (S := ⟨2, d⟩) origin2 inb _

/-- The contents `x` with its 256 rows from row `o` on replaced by `w`. -/
def putRows {n : ℕ} {e : EltTy} (o : ℕ) (x : Vec F ⟨2, ![4096, n]⟩ e) (w : Vec F ⟨2, ![256, n]⟩ e) : Vec F ⟨2, ![4096, n]⟩ e :=
  fun y => if h : o ≤ (y 0).val ∧ (y 0).val < o + 256 then
      w (Rect.unitLocal (s := ⟨2, ![4096, n]⟩) (off := ![o, 0]) (size := ![256, n]) y (Rect.unit_rows_mem y rfl rfl h))
    else x y

/-- A store of 256 whole rows replaces these rows. -/
theorem read_rows {sg : RefSig} {κ : Kind} {sp : Space} {n : ℕ} {e : EltTy} (v : View sg κ sp ⟨2, ![4096, n]⟩ e)
    (f : v.ty.Contents (Elt F)) {off : Fin 2 → ℕ} {o : ℕ} (hoff : off = ![o, 0]) (inb) (w : Vec F ⟨2, ![256, n]⟩ e) :
    v.read (Elt F) (v.writes (Elt F) f [⟨Rect.unit (s := ⟨2, ![4096, n]⟩) off ![256, n] inb, w⟩])
      = putRows o (v.read (Elt F) f) w := by
  funext y
  exact View.read_writes_cons_rows v f inb w [] y hoff rfl rfl

section
variable (c : Dev nD) (E : Set ℕ) (i : grid0.Coords) (arg1 : Memref sig .tc .vmem S4096x128 .f32) (harg1 : arg1.IsWhole) (arg2 : Memref sig .tc .vmem S256x4096 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S3x128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S3x128x128 .f32) (harg9 : arg9.IsWhole) (arg10 : Memref sig .tc .vmem S1x128 .f32) (harg10 : arg10.IsWhole) (arg11 : Memref sig .tc .vmem S4096x128 .f32) (harg11 : arg11.IsWhole) (arg12 : Memref sig .tc .vmem S4096x4096 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S4096x128 .bf16) (harg15 : arg15.IsWhole) (arg16 : Memref sig .tc .vmem S4096x128 .bf16) (harg16 : arg16.IsWhole)

/-- The first grid point: normalise the argument, then convert the first rows. -/
theorem run0 (h1 : k0_cond1 i = 1#1) (h2 : isAt i 0#32 = 1#1) (h3 : ¬ isAt i 16#32 = 1#1) (h4 : ¬ isAt i 17#32 = 1#1) (h5 : ¬ k0_cond5 i = 1#1)
    (x1 : Vec F S4096x128 .f32) (x2 : Vec F S256x4096 .f32) (x3 : Vec F S1x128 .f32) (x4 : Vec F S1x128 .f32) (x12 : Vec F S4096x4096 .bf16) (x13 : Vec F S4096x128 .bf16) (x14 : Vec F S4096x128 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg12 fullShare x12 ∗ owns (c : Thread nD τ) arg13 fullShare x13 ∗ owns (c : Thread nD τ) arg14 fullShare x14
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg12 fullShare (putRows (256 * (i 0).val) x12 (k0_pay3 x2)) ∗ owns (c : Thread nD τ) arg13 fullShare (k0_pay1 x1 x3 x4) ∗ owns (c : Thread nD τ) arg14 fullShare (putRows (256 * (i 0).val) x14 (k0_pay4 x2 (k0_pay1 x1 x3 x4)))) -∗ K ⟨⟩))
      ⊢ wp frame (wpE (defs₀ (F := F)) Variants.none c none) E
          (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__body_eq_skeleton]; unfold cc0__body_skel
  unfold owns
  iintro ⟨⟨%f1, %hf1, H1⟩, ⟨%f2, %hf2, H2⟩, ⟨%f3, %hf3, H3⟩, ⟨%f4, %hf4, H4⟩, ⟨%f12, %hf12, H12⟩, ⟨%f13, %hf13, H13⟩, ⟨%f14, %hf14, H14⟩, Hk⟩
  subst hf1 hf2 hf3 hf4 hf12 hf13 hf14
  sl_exec (disch := first | exact h1 | exact h2 | exact h3 | exact h4 | exact h5)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H12]
  · iexists _; isplitr
    swap; · iexact H12
    ipureintro
    rewrite [read_rows _ _ (k0_off1_eq i)]
    simp only [load_whole]
  isplitl [H13]
  · iexists _; isplitr
    swap; · iexact H13
    ipureintro
    delta run0.sl.H13_1
    rewrite [read_whole]
    simp only [load_whole]
  iexists _; isplitr
  swap; · iexact H14
  ipureintro
  rewrite [read_rows _ _ (k0_off2_eq i)]
  delta run0.sl.v22 run0.sl.H13_1
  rewrite [View.readCov_unit_zero (S := S4096x128) _ origin2]
  simp only [load_whole]

/-- A later point of the first sixteen: convert its rows and multiply them. -/
theorem runA (h1 : k0_cond1 i = 1#1) (h2 : ¬ isAt i 0#32 = 1#1) (h3 : ¬ isAt i 16#32 = 1#1) (h4 : ¬ isAt i 17#32 = 1#1) (h5 : ¬ k0_cond5 i = 1#1)
    (x2 : Vec F S256x4096 .f32) (x12 : Vec F S4096x4096 .bf16) (x13 : Vec F S4096x128 .bf16) (x14 : Vec F S4096x128 .bf16) (K : PUnit → sProp 𝕄) :
    iprop(owns (c : Thread nD τ) arg2 fullShare x2 ∗ owns (c : Thread nD τ) arg12 fullShare x12 ∗ owns (c : Thread nD τ) arg13 fullShare x13 ∗ owns (c : Thread nD τ) arg14 fullShare x14
        ∗ (iprop(owns (c : Thread nD τ) arg2 fullShare x2 ∗ owns (c : Thread nD τ) arg12 fullShare (putRows (256 * (i 0).val) x12 (k0_pay3 x2)) ∗ owns (c : Thread nD τ) arg13 fullShare x13 ∗ owns (c : Thread nD τ) arg14 fullShare (putRows (256 * (i 0).val) x14 (k0_pay4 x2 x13))) -∗ K ⟨⟩))
      ⊢ wp frame (wpE (defs₀ (F := F)) Variants.none c none) E
          (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__body_eq_skeleton]; unfold cc0__body_skel
  unfold owns
  iintro ⟨⟨%f2, %hf2, H2⟩, ⟨%f12, %hf12, H12⟩, ⟨%f13, %hf13, H13⟩, ⟨%f14, %hf14, H14⟩, Hk⟩
  subst hf2 hf12 hf13 hf14
  sl_exec (disch := first | exact h1 | exact h2 | exact h3 | exact h4 | exact h5)
  sl_step
  iapply Hk
  isplitl [H2]
  · iexists f2; isplitr; · ipureintro; rfl
    iexact H2
  isplitl [H12]
  · iexists _; isplitr
    swap; · iexact H12
    ipureintro
    rewrite [read_rows _ _ (k0_off1_eq i)]
    simp only [load_whole]
  isplitl [H13]
  · iexists f13; isplitr; · ipureintro; rfl
    iexact H13
  iexists _; isplitr
  swap; · iexact H14
  ipureintro
  rewrite [read_rows _ _ (k0_off2_eq i)]
  simp only [load_whole]

/-- The seventeenth point: the first layer and the second normalisation. -/
theorem run16 (h1 : ¬ k0_cond1 i = 1#1) (h3 : isAt i 16#32 = 1#1) (h4 : ¬ isAt i 17#32 = 1#1) (h5 : ¬ k0_cond5 i = 1#1)
    (x5 : Vec F S3x128x128 .f32) (x6 : Vec F S1x128 .f32) (x7 : Vec F S1x128 .f32) (x8 : Vec F S1x128 .f32) (x12 : Vec F S4096x4096 .bf16) (x13 : Vec F S4096x128 .bf16) (x14 : Vec F S4096x128 .bf16) (x15 : Vec F S4096x128 .bf16) (K : PUnit → sProp 𝕄) :
    iprop(owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg12 fullShare x12 ∗ owns (c : Thread nD τ) arg13 fullShare x13 ∗ owns (c : Thread nD τ) arg14 fullShare x14 ∗ owns (c : Thread nD τ) arg15 fullShare x15
        ∗ (iprop(owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg12 fullShare x12 ∗ owns (c : Thread nD τ) arg13 fullShare x13 ∗ owns (c : Thread nD τ) arg14 fullShare x14 ∗ owns (c : Thread nD τ) arg15 fullShare (k0_pay5 (k0_pay8 x12 x14 x13 (View.ld x5 (Rect.unit (s := S3x128x128) ![0, 0, 0] S1x128x128.size inb_S3x128x128_S1x128x128_0_0_0)) (View.ld x5 (Rect.unit (s := S3x128x128) ![2, 0, 0] S1x128x128.size inb_S3x128x128_S1x128x128_2_0_0)) x14 (View.ld x5 (Rect.unit (s := S3x128x128) ![1, 0, 0] S1x128x128.size inb_S3x128x128_S1x128x128_1_0_0)) (View.ld x5 (Rect.unit (s := S3x128x128) ![2, 0, 0] S1x128x128.size inb_S3x128x128_S1x128x128_2_0_0)) x6) x7 x8)) -∗ K ⟨⟩))
      ⊢ wp frame (wpE (defs₀ (F := F)) Variants.none c none) E
          (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__body_eq_skeleton]; unfold cc0__body_skel
  simp only [k0_part1_eq_skeleton]
  unfold owns
  iintro ⟨⟨%f5, %hf5, H5⟩, ⟨%f6, %hf6, H6⟩, ⟨%f7, %hf7, H7⟩, ⟨%f8, %hf8, H8⟩, ⟨%f12, %hf12, H12⟩, ⟨%f13, %hf13, H13⟩, ⟨%f14, %hf14, H14⟩, ⟨%f15, %hf15, H15⟩, Hk⟩
  subst hf5 hf6 hf7 hf8 hf12 hf13 hf14 hf15
  sl_exec (disch := first | exact h1 | exact h3 | exact h4 | exact h5)
  sl_step
  iapply Hk
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  rewrite [read_whole]
  delta run16.sl.r
  simp only [load_whole]
  rfl

/-- The eighteenth point: one more product. -/
theorem run17 (h1 : ¬ k0_cond1 i = 1#1) (h3 : ¬ isAt i 16#32 = 1#1) (h4 : isAt i 17#32 = 1#1) (h5 : ¬ k0_cond5 i = 1#1)
    (x12 : Vec F S4096x4096 .bf16) (x15 : Vec F S4096x128 .bf16) (x16 : Vec F S4096x128 .bf16) (K : PUnit → sProp 𝕄) :
    iprop(owns (c : Thread nD τ) arg12 fullShare x12 ∗ owns (c : Thread nD τ) arg15 fullShare x15 ∗ owns (c : Thread nD τ) arg16 fullShare x16
        ∗ (iprop(owns (c : Thread nD τ) arg12 fullShare x12 ∗ owns (c : Thread nD τ) arg15 fullShare x15 ∗ owns (c : Thread nD τ) arg16 fullShare (k0_pay6 x12 x15)) -∗ K ⟨⟩))
      ⊢ wp frame (wpE (defs₀ (F := F)) Variants.none c none) E
          (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__body_eq_skeleton]; unfold cc0__body_skel
  unfold owns
  iintro ⟨⟨%f12, %hf12, H12⟩, ⟨%f15, %hf15, H15⟩, ⟨%f16, %hf16, H16⟩, Hk⟩
  subst hf12 hf15 hf16
  sl_exec (disch := first | exact h1 | exact h3 | exact h4 | exact h5)
  sl_step
  iapply Hk
  isplitl [H12]
  · iexists f12; isplitr; · ipureintro; rfl
    iexact H12
  isplitl [H15]
  · iexists f15; isplitr; · ipureintro; rfl
    iexact H15
  iexists _; isplitr
  swap; · iexact H16
  ipureintro
  rewrite [read_whole]
  simp only [load_whole]

/-- The last point: the second layer and the result. -/
theorem run18 (h1 : ¬ k0_cond1 i = 1#1) (h3 : ¬ isAt i 16#32 = 1#1) (h4 : ¬ isAt i 17#32 = 1#1) (h5 : k0_cond5 i = 1#1)
    (x9 : Vec F S3x128x128 .f32) (x10 : Vec F S1x128 .f32) (x11 : Vec F S4096x128 .f32) (x12 : Vec F S4096x4096 .bf16) (x13 : Vec F S4096x128 .bf16) (x15 : Vec F S4096x128 .bf16) (x16 : Vec F S4096x128 .bf16) (K : PUnit → sProp 𝕄) :
    iprop(owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg15 fullShare x15 ∗ owns (c : Thread nD τ) arg16 fullShare x16
        ∗ (iprop(owns (c : Thread nD τ) arg9 fullShare x9 ∗ owns (c : Thread nD τ) arg10 fullShare x10 ∗ owns (c : Thread nD τ) arg11 fullShare (k0_pay7 (k0_pay9 x12 x16 x15 (View.ld x9 (Rect.unit (s := S3x128x128) ![0, 0, 0] S1x128x128.size inb_S3x128x128_S1x128x128_0_0_0)) (View.ld x9 (Rect.unit (s := S3x128x128) ![2, 0, 0] S1x128x128.size inb_S3x128x128_S1x128x128_2_0_0)) x16 (View.ld x9 (Rect.unit (s := S3x128x128) ![1, 0, 0] S1x128x128.size inb_S3x128x128_S1x128x128_1_0_0)) (View.ld x9 (Rect.unit (s := S3x128x128) ![2, 0, 0] S1x128x128.size inb_S3x128x128_S1x128x128_2_0_0)) x10) (k0_pay10 x13)) ∗ owns (c : Thread nD τ) arg12 fullShare x12 ∗ owns (c : Thread nD τ) arg13 fullShare x13 ∗ owns (c : Thread nD τ) arg15 fullShare x15 ∗ owns (c : Thread nD τ) arg16 fullShare x16) -∗ K ⟨⟩))
      ⊢ wp frame (wpE (defs₀ (F := F)) Variants.none c none) E
          (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__body_eq_skeleton]; unfold cc0__body_skel
  simp only [k0_part2_eq_skeleton]
  unfold owns
  iintro ⟨⟨%f9, %hf9, H9⟩, ⟨%f10, %hf10, H10⟩, ⟨%f11, %hf11, H11⟩, ⟨%f12, %hf12, H12⟩, ⟨%f13, %hf13, H13⟩, ⟨%f15, %hf15, H15⟩, ⟨%f16, %hf16, H16⟩, Hk⟩
  subst hf9 hf10 hf11 hf12 hf13 hf15 hf16
  sl_exec (disch := first | exact h1 | exact h3 | exact h4 | exact h5)
  sl_step
  iapply Hk
  isplitl [H9]
  · iexists f9; isplitr; · ipureintro; rfl
    iexact H9
  isplitl [H10]
  · iexists f10; isplitr; · ipureintro; rfl
    iexact H10
  isplitl [H11]
  · iexists _; isplitr
    swap; · iexact H11
    ipureintro
    rewrite [read_whole]
    delta run18.sl.r run18.sl.r_1
    simp only [load_whole]
    rfl
  isplitl [H12]
  · iexists f12; isplitr; · ipureintro; rfl
    iexact H12
  isplitl [H13]
  · iexists f13; isplitr; · ipureintro; rfl
    iexact H13
  isplitl [H15]
  · iexists f15; isplitr; · ipureintro; rfl
    iexact H15
  iexists f16; isplitr; · ipureintro; rfl
  iexact H16

end

end Cert.KernelIdeal.Body

end
-- ==== Proof.KernelIdeal.Data.lean ====
module

public import proofs.«01_k».proof.Proof.KernelIdeal.Body

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (c : Dev nD)

/-! ## What the buffers come to hold -/

/-- The grid point whose block of the Laplacian holds row `r`. -/
def ptOf (r : Fin 4096) : Fin cfg0.N := ⟨r.val / 256, by rw [show cfg0.N = 19 from N_0]; have := r.isLt; omega⟩

/-- The place of an index of 4096 rows within its block of 256 rows. -/
def inBlock {n : ℕ} (y : (⟨2, ![4096, n]⟩ : Shape).Idx) : (⟨2, ![256, n]⟩ : Shape).Idx :=
  fun a => match a with
    | ⟨0, _⟩ => ⟨(y 0).val % 256, Nat.mod_lt _ (by decide)⟩
    | ⟨1, _⟩ => y 1

/-- The normalised argument. -/
def XBN : Vec F S4096x128 .bf16 := k0_pay1 (V m c main_arg0) (V m c main_v0) (V m c main_v1)

/-- The converted Laplacian, gathered block by block. -/
def LB : Vec F S4096x4096 .bf16 := fun y => k0_pay3 (iblk m c 1 (ptOf (y 0))) (inBlock y)

/-- The Laplacian times the normalised argument, gathered block by block. -/
def X1 : Vec F S4096x128 .bf16 := fun y => k0_pay4 (iblk m c 1 (ptOf (y 0))) (XBN m c) (inBlock y)

/-- One of the three weight matrices of a layer, as a block of one matrix. -/
def W_ (k : ℕ) (w : Vec F S3x128x128 .f32) (h : ∀ a, (![k, 0, 0] : Fin 3 → ℕ) a + S1x128x128.size a ≤ S3x128x128.size a) :
    Vec F S1x128x128 .f32 := View.ld w (Rect.unit (s := S3x128x128) ![k, 0, 0] S1x128x128.size h)

/-- The first layer after its normalisation. -/
def Y0 : Vec F S4096x128 .bf16 :=
  k0_pay5 (k0_pay8 (LB m c) (X1 m c) (XBN m c) (W_ 0 (V m c main_arg4) inb_S3x128x128_S1x128x128_0_0_0)
    (W_ 2 (V m c main_arg4) inb_S3x128x128_S1x128x128_2_0_0) (X1 m c) (W_ 1 (V m c main_arg4) inb_S3x128x128_S1x128x128_1_0_0)
    (W_ 2 (V m c main_arg4) inb_S3x128x128_S1x128x128_2_0_0) (V m c main_v2)) (V m c main_v3) (V m c main_v4)

/-- The Laplacian times the first layer. -/
def Y1 : Vec F S4096x128 .bf16 := k0_pay6 (LB m c) (Y0 m c)

/-- The result. -/
def OUT : Vec F S4096x128 .f32 :=
  k0_pay7 (k0_pay9 (LB m c) (Y1 m c) (Y0 m c) (W_ 0 (V m c main_arg8) inb_S3x128x128_S1x128x128_0_0_0)
    (W_ 2 (V m c main_arg8) inb_S3x128x128_S1x128x128_2_0_0) (Y1 m c) (W_ 1 (V m c main_arg8) inb_S3x128x128_S1x128x128_1_0_0)
    (W_ 2 (V m c main_arg8) inb_S3x128x128_S1x128x128_2_0_0) (V m c main_v5)) (k0_pay10 (XBN m c))

/-! ## Rows written so far -/

/-- Inside the written rows the payload is read at the place in the block, outside them the old contents. -/
theorem putRows_block {n : ℕ} {e : EltTy} (t : ℕ) (x : Vec F ⟨2, ![4096, n]⟩ e) (w : Vec F ⟨2, ![256, n]⟩ e)
    (y : (⟨2, ![4096, n]⟩ : Shape).Idx) (h : 256 * t ≤ (y 0).val ∧ (y 0).val < 256 * t + 256) :
    putRows (256 * t) x w y = w (inBlock y) := by
  unfold putRows
  rw [dif_pos h]
  congr 1
  funext a
  match a with
  | ⟨0, _⟩ =>
    apply Fin.ext
    show (y 0).val - 256 * t = (y 0).val % 256
    omega
  | ⟨1, _⟩ =>
    apply Fin.ext
    show (y 1).val - 0 = (y 1).val
    omega

/-- After point `t` stores its block, the rows of the points up to `t` hold their blocks' payloads. -/
theorem putRows_step {n : ℕ} {e : EltTy} (P : Fin cfg0.N → Vec F ⟨2, ![256, n]⟩ e) (x : Vec F ⟨2, ![4096, n]⟩ e) (t : Fin cfg0.N)
    (h : ∀ y, (y 0).val < 256 * t.val → x y = P (ptOf (y 0)) (inBlock y)) (y : (⟨2, ![4096, n]⟩ : Shape).Idx)
    (hy : (y 0).val < 256 * (t.val + 1)) : putRows (256 * t.val) x (P t) y = P (ptOf (y 0)) (inBlock y) := by
  by_cases hb : 256 * t.val ≤ (y 0).val
  · rw [putRows_block _ _ _ _ ⟨hb, by omega⟩]
    have : ptOf (y 0) = t := Fin.ext (show (y 0).val / 256 = t.val by omega)
    rw [this]
  · have hn : ¬ (256 * t.val ≤ (y 0).val ∧ (y 0).val < 256 * t.val + 256) := by omega
    have : putRows (256 * t.val) x (P t) y = x y := by unfold putRows; rw [dif_neg hn]
    rw [this]
    exact h y (by omega)

/-! ## The invariant -/

/-- What the five scratch buffers hold before point `n`. -/
structure Inv (n : ℕ) (x12 : Vec F S4096x4096 .bf16) (x13 x14 x15 x16 : Vec F S4096x128 .bf16) : Prop where
  lap : ∀ y, (y 0).val < 256 * n → x12 y = LB m c y
  bn : 0 < n → x13 = XBN m c
  prod : ∀ y, (y 0).val < 256 * n → x14 y = X1 m c y
  mid : 17 ≤ n → x15 = Y0 m c
  fin : 18 ≤ n → x16 = Y1 m c

/-- Before the first point the scratch holds anything. -/
theorem Inv.zero (x12 : Vec F S4096x4096 .bf16) (x13 x14 x15 x16 : Vec F S4096x128 .bf16) : Inv m c 0 x12 x13 x14 x15 x16 where
  lap y h := absurd h (by omega)
  bn h := absurd h (by omega)
  prod y h := absurd h (by omega)
  mid h := absurd h (by omega)
  fin h := absurd h (by omega)

variable {m c}

/-- The first point. -/
theorem Inv.first {x12 : Vec F S4096x4096 .bf16} {x13 x14 x15 x16 : Vec F S4096x128 .bf16} {t : Fin cfg0.N} (ht : t.val = 0)
    (h : Inv m c t.val x12 x13 x14 x15 x16) :
    Inv m c (t.val + 1) (putRows (256 * t.val) x12 (k0_pay3 (iblk m c 1 t))) (XBN m c)
      (putRows (256 * t.val) x14 (k0_pay4 (iblk m c 1 t) (XBN m c))) x15 x16 where
  lap y hy := putRows_step (n := 4096) (e := .bf16) (fun s => k0_pay3 (iblk m c 1 s)) x12 t h.lap y hy
  bn _ := rfl
  prod y hy := putRows_step (n := 128) (e := .bf16) (fun s => k0_pay4 (iblk m c 1 s) (XBN m c)) x14 t h.prod y hy
  mid h := absurd h (by omega)
  fin h := absurd h (by omega)

/-- The other points of the first sixteen. -/
theorem Inv.later {x12 : Vec F S4096x4096 .bf16} {x13 x14 x15 x16 : Vec F S4096x128 .bf16} {t : Fin cfg0.N} (ht : 0 < t.val ∧ t.val < 16)
    (h : Inv m c t.val x12 x13 x14 x15 x16) :
    Inv m c (t.val + 1) (putRows (256 * t.val) x12 (k0_pay3 (iblk m c 1 t))) x13
      (putRows (256 * t.val) x14 (k0_pay4 (iblk m c 1 t) x13)) x15 x16 where
  lap y hy := putRows_step (n := 4096) (e := .bf16) (fun s => k0_pay3 (iblk m c 1 s)) x12 t h.lap y hy
  bn _ := h.bn ht.1
  prod y hy := by
    rw [h.bn ht.1]
    exact putRows_step (n := 128) (e := .bf16) (fun s => k0_pay4 (iblk m c 1 s) (XBN m c)) x14 t h.prod y hy
  mid h := absurd h (by omega)
  fin h := absurd h (by omega)

/-- From the sixteenth point on every row of the Laplacian is there. -/
theorem Inv.lap_eq {n : ℕ} {x12 : Vec F S4096x4096 .bf16} {x13 x14 x15 x16 : Vec F S4096x128 .bf16} (hn : 16 ≤ n)
    (h : Inv m c n x12 x13 x14 x15 x16) : x12 = LB m c :=
  funext fun y => h.lap y (by have : (y 0).val < 4096 := (y 0).isLt; omega)

/-- From the sixteenth point on every row of the first product is there. -/
theorem Inv.prod_eq {n : ℕ} {x12 : Vec F S4096x4096 .bf16} {x13 x14 x15 x16 : Vec F S4096x128 .bf16} (hn : 16 ≤ n)
    (h : Inv m c n x12 x13 x14 x15 x16) : x14 = X1 m c :=
  funext fun y => h.prod y (by have : (y 0).val < 4096 := (y 0).isLt; omega)

/-- A state from the sixteenth point on. -/
theorem Inv.full (n : ℕ) {x15 x16 : Vec F S4096x128 .bf16} (h15 : 17 ≤ n → x15 = Y0 m c) (h16 : 18 ≤ n → x16 = Y1 m c) :
    Inv m c n (LB m c) (XBN m c) (X1 m c) x15 x16 :=
  ⟨fun _ _ => rfl, fun _ => rfl, fun _ _ => rfl, h15, h16⟩

variable (m c)

/-- The scratch buffers and the generator register before point `n`. -/
def Phi (n : ℕ) : sProp 𝕄 :=
  iprop(∃ x12 x13 x14 x15 x16, ⌜Inv m c n x12 x13 x14 x15 x16⌝
    ∗ owns (c : Thread nD τ) (Memref.whole cc0_scratch0) fullShare x12
    ∗ owns (c : Thread nD τ) (Memref.whole cc0_scratch1) fullShare x13
    ∗ owns (c : Thread nD τ) (Memref.whole cc0_scratch2) fullShare x14
    ∗ owns (c : Thread nD τ) (Memref.whole cc0_scratch3) fullShare x15
    ∗ owns (c : Thread nD τ) (Memref.whole cc0_scratch4) fullShare x16
    ∗ ∃ r, prngReg c r)

/-! ## The proof data -/

/-- The proof data: the arrays as the region finds them, every input's buffer left at its block, the result's at `OUT`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => OUT m c
  Φ t := Phi m c t.val
  q _ := fullShare
  owed _ := 0

/-- The arrays are what the region finds. -/
theorem A_eq (c : Dev nD) (w : Fin cfg0.W) : (dats m 0 c).A w = V m c (Pipeline.arrRef spec0 w) := by
  dsimp only [dats]

/-- Input 0 is left as found. -/
theorem after_0 (c : Dev nD) (t : Fin cfg0.N) : (dats m 0 c).after 0 t = iblk m c 0 t := by dsimp only [dats]
/-- Input 1 is left as found. -/
theorem after_1 (c : Dev nD) (t : Fin cfg0.N) : (dats m 0 c).after 1 t = iblk m c 1 t := by dsimp only [dats]
/-- Input 2 is left as found. -/
theorem after_2 (c : Dev nD) (t : Fin cfg0.N) : (dats m 0 c).after 2 t = iblk m c 2 t := by dsimp only [dats]
/-- Input 3 is left as found. -/
theorem after_3 (c : Dev nD) (t : Fin cfg0.N) : (dats m 0 c).after 3 t = iblk m c 3 t := by dsimp only [dats]
/-- Input 4 is left as found. -/
theorem after_4 (c : Dev nD) (t : Fin cfg0.N) : (dats m 0 c).after 4 t = iblk m c 4 t := by dsimp only [dats]
/-- Input 5 is left as found. -/
theorem after_5 (c : Dev nD) (t : Fin cfg0.N) : (dats m 0 c).after 5 t = iblk m c 5 t := by dsimp only [dats]
/-- Input 6 is left as found. -/
theorem after_6 (c : Dev nD) (t : Fin cfg0.N) : (dats m 0 c).after 6 t = iblk m c 6 t := by dsimp only [dats]
/-- Input 7 is left as found. -/
theorem after_7 (c : Dev nD) (t : Fin cfg0.N) : (dats m 0 c).after 7 t = iblk m c 7 t := by dsimp only [dats]
/-- Input 8 is left as found. -/
theorem after_8 (c : Dev nD) (t : Fin cfg0.N) : (dats m 0 c).after 8 t = iblk m c 8 t := by dsimp only [dats]
/-- Input 9 is left as found. -/
theorem after_9 (c : Dev nD) (t : Fin cfg0.N) : (dats m 0 c).after 9 t = iblk m c 9 t := by dsimp only [dats]
/-- The result's buffer is left at `OUT`. -/
theorem after_10 (c : Dev nD) (t : Fin cfg0.N) : (dats m 0 c).after 10 t = OUT m c := by dsimp only [dats]

/-- Input 0's buffer holds its block at every point. -/
theorem before_0 (c : Dev nD) (t : Fin cfg0.N) (d) : (dats m 0 c).before 0 t d = iblk m c 0 t :=
  before0_0_of m (dats m 0 c) (A_eq m c 0) (after_0 m c) t d
/-- Input 1's buffer holds its block at every point. -/
theorem before_1 (c : Dev nD) (t : Fin cfg0.N) (d) : (dats m 0 c).before 1 t d = iblk m c 1 t :=
  before0_1_of m (dats m 0 c) (A_eq m c 1) (after_1 m c) t d
/-- Input 2's buffer holds its block at every point. -/
theorem before_2 (c : Dev nD) (t : Fin cfg0.N) (d) : (dats m 0 c).before 2 t d = iblk m c 2 t :=
  before0_2_of m (dats m 0 c) (A_eq m c 2) (after_2 m c) t d
/-- Input 3's buffer holds its block at every point. -/
theorem before_3 (c : Dev nD) (t : Fin cfg0.N) (d) : (dats m 0 c).before 3 t d = iblk m c 3 t :=
  before0_3_of m (dats m 0 c) (A_eq m c 3) (after_3 m c) t d
/-- Input 4's buffer holds its block at every point. -/
theorem before_4 (c : Dev nD) (t : Fin cfg0.N) (d) : (dats m 0 c).before 4 t d = iblk m c 4 t :=
  before0_4_of m (dats m 0 c) (A_eq m c 4) (after_4 m c) t d
/-- Input 5's buffer holds its block at every point. -/
theorem before_5 (c : Dev nD) (t : Fin cfg0.N) (d) : (dats m 0 c).before 5 t d = iblk m c 5 t :=
  before0_5_of m (dats m 0 c) (A_eq m c 5) (after_5 m c) t d
/-- Input 6's buffer holds its block at every point. -/
theorem before_6 (c : Dev nD) (t : Fin cfg0.N) (d) : (dats m 0 c).before 6 t d = iblk m c 6 t :=
  before0_6_of m (dats m 0 c) (A_eq m c 6) (after_6 m c) t d
/-- Input 7's buffer holds its block at every point. -/
theorem before_7 (c : Dev nD) (t : Fin cfg0.N) (d) : (dats m 0 c).before 7 t d = iblk m c 7 t :=
  before0_7_of m (dats m 0 c) (A_eq m c 7) (after_7 m c) t d
/-- Input 8's buffer holds its block at every point. -/
theorem before_8 (c : Dev nD) (t : Fin cfg0.N) (d) : (dats m 0 c).before 8 t d = iblk m c 8 t :=
  before0_8_of m (dats m 0 c) (A_eq m c 8) (after_8 m c) t d
/-- Input 9's buffer holds its block at every point. -/
theorem before_9 (c : Dev nD) (t : Fin cfg0.N) (d) : (dats m 0 c).before 9 t d = iblk m c 9 t :=
  before0_9_of m (dats m 0 c) (A_eq m c 9) (after_9 m c) t d

/-! ## Inputs staged whole -/

/-- Input 0 is staged whole at every point. -/
theorem iblk_0 (t : Fin cfg0.N) : iblk m c 0 t = (V m c main_arg0 : Vec F S4096x128 .f32) := by
  funext y
  unfold iblk
  show V m c main_arg0 (((cfg0.win 0).blk t).view.emb y) = V m c main_arg0 y
  congr 1
  funext a
  exact Fin.ext (Pipeline.Window.rect_emb_val_of_index_zero (cfg0.win 0) t a (by fin_cases a <;> rfl) y)

/-- Input 2 is staged whole at every point. -/
theorem iblk_2 (t : Fin cfg0.N) : iblk m c 2 t = (V m c main_v0 : Vec F S1x128 .f32) := by
  funext y
  unfold iblk
  show V m c main_v0 (((cfg0.win 2).blk t).view.emb y) = V m c main_v0 y
  congr 1
  funext a
  exact Fin.ext (Pipeline.Window.rect_emb_val_of_index_zero (cfg0.win 2) t a (by fin_cases a <;> rfl) y)

/-- Input 3 is staged whole at every point. -/
theorem iblk_3 (t : Fin cfg0.N) : iblk m c 3 t = (V m c main_v1 : Vec F S1x128 .f32) := by
  funext y
  unfold iblk
  show V m c main_v1 (((cfg0.win 3).blk t).view.emb y) = V m c main_v1 y
  congr 1
  funext a
  exact Fin.ext (Pipeline.Window.rect_emb_val_of_index_zero (cfg0.win 3) t a (by fin_cases a <;> rfl) y)

/-- Input 4 is staged whole at every point. -/
theorem iblk_4 (t : Fin cfg0.N) : iblk m c 4 t = (V m c main_arg4 : Vec F S3x128x128 .f32) := by
  funext y
  unfold iblk
  show V m c main_arg4 (((cfg0.win 4).blk t).view.emb y) = V m c main_arg4 y
  congr 1
  funext a
  exact Fin.ext (Pipeline.Window.rect_emb_val_of_index_zero (cfg0.win 4) t a (by fin_cases a <;> rfl) y)

/-- Input 5 is staged whole at every point. -/
theorem iblk_5 (t : Fin cfg0.N) : iblk m c 5 t = (V m c main_v2 : Vec F S1x128 .f32) := by
  funext y
  unfold iblk
  show V m c main_v2 (((cfg0.win 5).blk t).view.emb y) = V m c main_v2 y
  congr 1
  funext a
  exact Fin.ext (Pipeline.Window.rect_emb_val_of_index_zero (cfg0.win 5) t a (by fin_cases a <;> rfl) y)

/-- Input 6 is staged whole at every point. -/
theorem iblk_6 (t : Fin cfg0.N) : iblk m c 6 t = (V m c main_v3 : Vec F S1x128 .f32) := by
  funext y
  unfold iblk
  show V m c main_v3 (((cfg0.win 6).blk t).view.emb y) = V m c main_v3 y
  congr 1
  funext a
  exact Fin.ext (Pipeline.Window.rect_emb_val_of_index_zero (cfg0.win 6) t a (by fin_cases a <;> rfl) y)

/-- Input 7 is staged whole at every point. -/
theorem iblk_7 (t : Fin cfg0.N) : iblk m c 7 t = (V m c main_v4 : Vec F S1x128 .f32) := by
  funext y
  unfold iblk
  show V m c main_v4 (((cfg0.win 7).blk t).view.emb y) = V m c main_v4 y
  congr 1
  funext a
  exact Fin.ext (Pipeline.Window.rect_emb_val_of_index_zero (cfg0.win 7) t a (by fin_cases a <;> rfl) y)

/-- Input 8 is staged whole at every point. -/
theorem iblk_8 (t : Fin cfg0.N) : iblk m c 8 t = (V m c main_arg8 : Vec F S3x128x128 .f32) := by
  funext y
  unfold iblk
  show V m c main_arg8 (((cfg0.win 8).blk t).view.emb y) = V m c main_arg8 y
  congr 1
  funext a
  exact Fin.ext (Pipeline.Window.rect_emb_val_of_index_zero (cfg0.win 8) t a (by fin_cases a <;> rfl) y)

/-- Input 9 is staged whole at every point. -/
theorem iblk_9 (t : Fin cfg0.N) : iblk m c 9 t = (V m c main_v5 : Vec F S1x128 .f32) := by
  funext y
  unfold iblk
  show V m c main_v5 (((cfg0.win 9).blk t).view.emb y) = V m c main_v5 y
  congr 1
  funext a
  exact Fin.ext (Pipeline.Window.rect_emb_val_of_index_zero (cfg0.win 9) t a (by fin_cases a <;> rfl) y)

/-! ## The points -/

/-- A point's grid coordinate is its number. -/
theorem coord_val : ∀ t : Fin cfg0.N, (grid0.coords t 0).val = t.val :=
  (by decide +kernel : ∀ t : Fin grid0.N, (grid0.coords t 0).val = t.val)

/-- Which branches a point takes. -/
theorem branches : ∀ t : Fin cfg0.N,
    (k0_cond1 (grid0.coords t) = 1#1 ↔ t.val < 16) ∧ (isAt (grid0.coords t) 0#32 = 1#1 ↔ t.val = 0)
      ∧ (isAt (grid0.coords t) 16#32 = 1#1 ↔ t.val = 16) ∧ (isAt (grid0.coords t) 17#32 = 1#1 ↔ t.val = 17)
      ∧ (k0_cond5 (grid0.coords t) = 1#1 ↔ t.val = 18) :=
  (by decide +kernel : ∀ t : Fin grid0.N,
    (k0_cond1 (grid0.coords t) = 1#1 ↔ t.val < 16) ∧ (isAt (grid0.coords t) 0#32 = 1#1 ↔ t.val = 0)
      ∧ (isAt (grid0.coords t) 16#32 = 1#1 ↔ t.val = 16) ∧ (isAt (grid0.coords t) 17#32 = 1#1 ↔ t.val = 17)
      ∧ (k0_cond5 (grid0.coords t) = 1#1 ↔ t.val = 18))

/-- There are nineteen points. -/
theorem pt_lt (t : Fin cfg0.N) : t.val < 19 := lt_of_lt_of_eq t.isLt N_0

/-- Before the last point the body leaves the result's buffer alone. -/
theorem idle_of (t : Fin cfg0.N) (h : t.val ≠ 18) : cfg0.idle 10 (cfg0.grid.coords t) = true := by
  have hb : ¬ k0_cond5 (grid0.coords t) = 1#1 := fun hc => h ((branches t).2.2.2.2.mp hc)
  show (!(k0_cond5 (grid0.coords t) == 1#1)) = true
  simp [hb]

/-- At the last point the body stores it. -/
theorem busy_of (t : Fin cfg0.N) (h : t.val = 18) : cfg0.idle 10 (cfg0.grid.coords t) = false := by
  have hb : k0_cond5 (grid0.coords t) = 1#1 := (branches t).2.2.2.2.mpr h
  show (!(k0_cond5 (grid0.coords t) == 1#1)) = false
  simp [hb]

/-- Before the last point nothing is written back. -/
theorem noflush_of (t : Fin cfg0.N) (h : t.val ≠ 18) : (cfg0.win 10).flush t = false := by
  have := pt_lt t
  exact Bool.eq_false_iff.mpr fun hf => h (by have := (flush0_10 t).mp hf; omega)

end Cert.KernelIdeal.Body

end
-- ==== Proof.KernelIdeal.Run.lean ====
module

public import proofs.«01_k».proof.Proof.KernelIdeal.Data
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What the body hands back of the result's buffer. -/
def outPost (c : Dev nD) (t : Fin cfg0.N) : sProp 𝕄 :=
  match cfg0.idle 10 (cfg0.grid.coords t) with
  | true =>
    match (cfg0.win 10).flush t with
    | false => iprop(∃ d, owns (c : Thread nD τ) (st0_10 t) fullShare ((dats m 0 c).before 10 t d))
    | true => owns (c : Thread nD τ) (st0_10 t) fullShare ((dats m 0 c).after 10 t)
  | false => owns (c : Thread nD τ) (st0_10 t) fullShare ((dats m 0 c).after 10 t)

/-- Before the last point the buffer goes back as it came. -/
theorem outPost_idle (c : Dev nD) (t : Fin cfg0.N) (h : t.val ≠ 18) :
    outPost m c t = iprop(∃ d, owns (c : Thread nD τ) (st0_10 t) fullShare ((dats m 0 c).before 10 t d)) := by
  unfold outPost
  rewrite [idle_of t h, noflush_of t h]
  rfl

/-- At the last point it holds the result. -/
theorem outPost_last (c : Dev nD) (t : Fin cfg0.N) (h : t.val = 18) :
    outPost m c t = owns (c : Thread nD τ) (st0_10 t) fullShare (OUT m c) := by
  unfold outPost
  rewrite [busy_of t h, after_10]
  rfl

/-- What the body hands back at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ outPost m c t)

set_option maxHeartbeats 1600000 in
/-- The body at the first point. -/
theorem sound_first (c : Dev nD) (t : Fin cfg0.N) (ht : t.val = 0) :
    bodyPre m c t ⊢ wp frame (wpE (defs₀ (F := F)) Variants.none c none) Set.univ (bodyAt0 t) (fun _ => bodyPost m c t) := by
  have htl := pt_lt t
  unfold bodyPre bodyPost bodyAt0
  rewrite [outPost_idle m c t (by omega)]
  simp only [before_0, before_1, before_2, before_3, before_4, before_5, before_6, before_7, before_8, before_9, after_0, after_1, after_2, after_3, after_4, after_5, after_6, after_7, after_8, after_9, iblk_0, iblk_2, iblk_3, iblk_4, iblk_5, iblk_6, iblk_7, iblk_8, iblk_9]
  rewrite [show (dats m 0 c).Φ t.succ = Phi m c (t.val + 1) from rfl, show (dats m 0 c).Φ t.castSucc = Phi m c t.val from rfl,
    show (dats m 0 c).owesAt () t.succ = (dats m 0 c).owesAt () t.castSucc from rfl]
  unfold Phi
  iintro ⟨⟨%x12, %x13, %x14, %x15, %x16, %hI, S12, S13, S14, S15, S16, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run0 c Set.univ (grid0.coords t) _ _ _ _ _ _ _ _ _ _ _ _ _ _ _ _ _ _ _ _ _ _ _ _ _ _ _ _ _ _ _ _
    ((branches t).1.mpr (by omega)) ((branches t).2.1.mpr ht) (mt (branches t).2.2.1.mp (by omega)) (mt (branches t).2.2.2.1.mp (by omega)) (mt (branches t).2.2.2.2.mp (by omega))
    (V m c main_arg0) (iblk m c 1 t) (V m c main_v0) (V m c main_v1) x12 x13 x14 _)
  isplitl [H0]; · iexact H0
  isplitl [H1]; · iexact H1
  isplitl [H2]; · iexact H2
  isplitl [H3]; · iexact H3
  isplitl [S12]; · iexact S12
  isplitl [S13]; · iexact S13
  isplitl [S14]; · iexact S14
  iintro ⟨H0, H1, H2, H3, S12, S13, S14⟩
  rewrite [coord_val t]
  isplitl [S12 S13 S14 S15 S16 Hg]
  · iexists _, _, _, _, _; isplitr
    swap
    · isplitl [S12]; · iexact S12
      isplitl [S13]; · iexact S13
      isplitl [S14]; · iexact S14
      isplitl [S15]; · iexact S15
      isplitl [S16]; · iexact S16
      iexact Hg
    ipureintro
    exact Inv.first ht hI
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists d10; iexact H10

set_option maxHeartbeats 1600000 in
/-- The body at another point of the first sixteen. -/
theorem sound_later (c : Dev nD) (t : Fin cfg0.N) (ht : 0 < t.val ∧ t.val < 16) :
    bodyPre m c t ⊢ wp frame (wpE (defs₀ (F := F)) Variants.none c none) Set.univ (bodyAt0 t) (fun _ => bodyPost m c t) := by
  have htl := pt_lt t
  unfold bodyPre bodyPost bodyAt0
  rewrite [outPost_idle m c t (by omega)]
  simp only [before_0, before_1, before_2, before_3, before_4, before_5, before_6, before_7, before_8, before_9, after_0, after_1, after_2, after_3, after_4, after_5, after_6, after_7, after_8, after_9, iblk_0, iblk_2, iblk_3, iblk_4, iblk_5, iblk_6, iblk_7, iblk_8, iblk_9]
  rewrite [show (dats m 0 c).Φ t.succ = Phi m c (t.val + 1) from rfl, show (dats m 0 c).Φ t.castSucc = Phi m c t.val from rfl,
    show (dats m 0 c).owesAt () t.succ = (dats m 0 c).owesAt () t.castSucc from rfl]
  unfold Phi
  iintro ⟨⟨%x12, %x13, %x14, %x15, %x16, %hI, S12, S13, S14, S15, S16, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (runA c Set.univ (grid0.coords t) _ _ _ _ _ _ _ _ _ _ _ _ _ _ _ _ _ _ _ _ _ _ _ _ _ _ _ _ _ _ _ _
    ((branches t).1.mpr (by omega)) (mt (branches t).2.1.mp (by omega)) (mt (branches t).2.2.1.mp (by omega)) (mt (branches t).2.2.2.1.mp (by omega)) (mt (branches t).2.2.2.2.mp (by omega))
    (iblk m c 1 t) x12 x13 x14 _)
  isplitl [H1]; · iexact H1
  isplitl [S12]; · iexact S12
  isplitl [S13]; · iexact S13
  isplitl [S14]; · iexact S14
  iintro ⟨H1, S12, S13, S14⟩
  rewrite [coord_val t]
  isplitl [S12 S13 S14 S15 S16 Hg]
  · iexists _, _, _, _, _; isplitr
    swap
    · isplitl [S12]; · iexact S12
      isplitl [S13]; · iexact S13
      isplitl [S14]; · iexact S14
      isplitl [S15]; · iexact S15
      isplitl [S16]; · iexact S16
      iexact Hg
    ipureintro
    exact Inv.later ht hI
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists d10; iexact H10

set_option maxHeartbeats 1600000 in
/-- The body at the seventeenth point. -/
theorem sound_sixteen (c : Dev nD) (t : Fin cfg0.N) (ht : t.val = 16) :
    bodyPre m c t ⊢ wp frame (wpE (defs₀ (F := F)) Variants.none c none) Set.univ (bodyAt0 t) (fun _ => bodyPost m c t) := by
  have htl := pt_lt t
  unfold bodyPre bodyPost bodyAt0
  rewrite [outPost_idle m c t (by omega)]
  simp only [before_0, before_1, before_2, before_3, before_4, before_5, before_6, before_7, before_8, before_9, after_0, after_1, after_2, after_3, after_4, after_5, after_6, after_7, after_8, after_9, iblk_0, iblk_2, iblk_3, iblk_4, iblk_5, iblk_6, iblk_7, iblk_8, iblk_9]
  rewrite [show (dats m 0 c).Φ t.succ = Phi m c (t.val + 1) from rfl, show (dats m 0 c).Φ t.castSucc = Phi m c t.val from rfl,
    show (dats m 0 c).owesAt () t.succ = (dats m 0 c).owesAt () t.castSucc from rfl]
  unfold Phi
  iintro ⟨⟨%x12, %x13, %x14, %x15, %x16, %hI, S12, S13, S14, S15, S16, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain rfl : x12 = LB m c := hI.lap_eq (by omega)
  obtain rfl : x14 = X1 m c := hI.prod_eq (by omega)
  obtain rfl : x13 = XBN m c := hI.bn (by omega)
  iapply (run16 c Set.univ (grid0.coords t) _ _ _ _ _ _ _ _ _ _ _ _ _ _ _ _ _ _ _ _ _ _ _ _ _ _ _ _ _ _ _ _
    (mt (branches t).1.mp (by omega)) ((branches t).2.2.1.mpr ht) (mt (branches t).2.2.2.1.mp (by omega)) (mt (branches t).2.2.2.2.mp (by omega))
    (V m c main_arg4) (V m c main_v2) (V m c main_v3) (V m c main_v4) (LB m c) (XBN m c) (X1 m c) x15 _)
  isplitl [H4]; · iexact H4
  isplitl [H5]; · iexact H5
  isplitl [H6]; · iexact H6
  isplitl [H7]; · iexact H7
  isplitl [S12]; · iexact S12
  isplitl [S13]; · iexact S13
  isplitl [S14]; · iexact S14
  isplitl [S15]; · iexact S15
  iintro ⟨H4, H5, H6, H7, S12, S13, S14, S15⟩
  isplitl [S12 S13 S14 S15 S16 Hg]
  · iexists _, _, _, _, _; isplitr
    swap
    · isplitl [S12]; · iexact S12
      isplitl [S13]; · iexact S13
      isplitl [S14]; · iexact S14
      isplitl [S15]; · iexact S15
      isplitl [S16]; · iexact S16
      iexact Hg
    ipureintro
    exact Inv.full (t.val + 1) (fun _ => rfl) (fun h => absurd h (by omega))
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists d10; iexact H10

set_option maxHeartbeats 1600000 in
/-- The body at the eighteenth point. -/
theorem sound_seventeen (c : Dev nD) (t : Fin cfg0.N) (ht : t.val = 17) :
    bodyPre m c t ⊢ wp frame (wpE (defs₀ (F := F)) Variants.none c none) Set.univ (bodyAt0 t) (fun _ => bodyPost m c t) := by
  have htl := pt_lt t
  unfold bodyPre bodyPost bodyAt0
  rewrite [outPost_idle m c t (by omega)]
  simp only [before_0, before_1, before_2, before_3, before_4, before_5, before_6, before_7, before_8, before_9, after_0, after_1, after_2, after_3, after_4, after_5, after_6, after_7, after_8, after_9, iblk_0, iblk_2, iblk_3, iblk_4, iblk_5, iblk_6, iblk_7, iblk_8, iblk_9]
  rewrite [show (dats m 0 c).Φ t.succ = Phi m c (t.val + 1) from rfl, show (dats m 0 c).Φ t.castSucc = Phi m c t.val from rfl,
    show (dats m 0 c).owesAt () t.succ = (dats m 0 c).owesAt () t.castSucc from rfl]
  unfold Phi
  iintro ⟨⟨%x12, %x13, %x14, %x15, %x16, %hI, S12, S13, S14, S15, S16, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain rfl : x12 = LB m c := hI.lap_eq (by omega)
  obtain rfl : x14 = X1 m c := hI.prod_eq (by omega)
  obtain rfl : x13 = XBN m c := hI.bn (by omega)
  obtain rfl : x15 = Y0 m c := hI.mid (by omega)
  iapply (run17 c Set.univ (grid0.coords t) _ _ _ _ _ _ _ _ _ _ _ _ _ _ _ _ _ _ _ _ _ _ _ _ _ _ _ _ _ _ _ _
    (mt (branches t).1.mp (by omega)) (mt (branches t).2.2.1.mp (by omega)) ((branches t).2.2.2.1.mpr ht) (mt (branches t).2.2.2.2.mp (by omega))
    (LB m c) (Y0 m c) x16 _)
  isplitl [S12]; · iexact S12
  isplitl [S15]; · iexact S15
  isplitl [S16]; · iexact S16
  iintro ⟨S12, S15, S16⟩
  isplitl [S12 S13 S14 S15 S16 Hg]
  · iexists _, _, _, _, _; isplitr
    swap
    · isplitl [S12]; · iexact S12
      isplitl [S13]; · iexact S13
      isplitl [S14]; · iexact S14
      isplitl [S15]; · iexact S15
      isplitl [S16]; · iexact S16
      iexact Hg
    ipureintro
    exact Inv.full (t.val + 1) (fun _ => rfl) (fun _ => rfl)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists d10; iexact H10

set_option maxHeartbeats 1600000 in
/-- The body at the last point. -/
theorem sound_last (c : Dev nD) (t : Fin cfg0.N) (ht : t.val = 18) :
    bodyPre m c t ⊢ wp frame (wpE (defs₀ (F := F)) Variants.none c none) Set.univ (bodyAt0 t) (fun _ => bodyPost m c t) := by
  have htl := pt_lt t
  unfold bodyPre bodyPost bodyAt0
  rewrite [outPost_last m c t ht]
  simp only [before_0, before_1, before_2, before_3, before_4, before_5, before_6, before_7, before_8, before_9, after_0, after_1, after_2, after_3, after_4, after_5, after_6, after_7, after_8, after_9, iblk_0, iblk_2, iblk_3, iblk_4, iblk_5, iblk_6, iblk_7, iblk_8, iblk_9]
  rewrite [show (dats m 0 c).Φ t.succ = Phi m c (t.val + 1) from rfl, show (dats m 0 c).Φ t.castSucc = Phi m c t.val from rfl,
    show (dats m 0 c).owesAt () t.succ = (dats m 0 c).owesAt () t.castSucc from rfl]
  unfold Phi
  iintro ⟨⟨%x12, %x13, %x14, %x15, %x16, %hI, S12, S13, S14, S15, S16, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain rfl : x12 = LB m c := hI.lap_eq (by omega)
  obtain rfl : x14 = X1 m c := hI.prod_eq (by omega)
  obtain rfl : x13 = XBN m c := hI.bn (by omega)
  obtain rfl : x15 = Y0 m c := hI.mid (by omega)
  obtain rfl : x16 = Y1 m c := hI.fin (by omega)
  iapply (run18 c Set.univ (grid0.coords t) _ _ _ _ _ _ _ _ _ _ _ _ _ _ _ _ _ _ _ _ _ _ _ _ _ _ _ _ _ _ _ _
    (mt (branches t).1.mp (by omega)) (mt (branches t).2.2.1.mp (by omega)) (mt (branches t).2.2.2.1.mp (by omega)) ((branches t).2.2.2.2.mpr ht)
    (V m c main_arg8) (V m c main_v5) ((dats m 0 c).before 10 t d10) (LB m c) (XBN m c) (Y0 m c) (Y1 m c) _)
  isplitl [H8]; · iexact H8
  isplitl [H9]; · iexact H9
  isplitl [H10]; · iexact H10
  isplitl [S12]; · iexact S12
  isplitl [S13]; · iexact S13
  isplitl [S15]; · iexact S15
  isplitl [S16]; · iexact S16
  iintro ⟨H8, H9, H10, S12, S13, S15, S16⟩
  isplitl [S12 S13 S14 S15 S16 Hg]
  · iexists _, _, _, _, _; isplitr
    swap
    · isplitl [S12]; · iexact S12
      isplitl [S13]; · iexact S13
      isplitl [S14]; · iexact S14
      isplitl [S15]; · iexact S15
      isplitl [S16]; · iexact S16
      iexact Hg
    ipureintro
    exact Inv.full (t.val + 1) (fun _ => rfl) (fun _ => rfl)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body at any point. -/
theorem sound_body (c : Dev nD) (t : Fin cfg0.N) :
    bodyPre m c t ⊢ wp frame (wpE (defs₀ (F := F)) Variants.none c none) Set.univ (bodyAt0 t) (fun _ => bodyPost m c t) := by
  have htl := pt_lt t
  rcases (by omega : t.val = 0 ∨ (0 < t.val ∧ t.val < 16) ∨ t.val = 16 ∨ t.val = 17 ∨ t.val = 18) with h | h | h | h | h
  · exact sound_first m c t h
  · exact sound_later m c t h
  · exact sound_sixteen m c t h
  · exact sound_seventeen m c t h
  · exact sound_last m c t h

/-- The body table's entry at a point is the body there. -/
theorem row_body (t : Fin cfg0.N) : defs₀ (F := F) .tc cfg0.body (cfg0.bodyArgs t (cfg0.slots t)) = bodyAt0 t := by
  unfold defs₀; rw [Defs.onTc_tc]

/-- The body keeps the proof data at every point. -/
theorem body_keeps (c : Dev nD) : BodyObligation (dats (F := F) m 0 c) (defs₀ (F := F)) Variants.none () Set.univ := fun t => by
  rw [bigSep_W0, bigSep_W0, row_body]
  exact triple_restated (sound_body m c t) rfl .rfl fun _ => .rfl

/-! ## Entering and leaving the region -/

/-- The scratch at anything is the invariant before the first point. -/
theorem enter (c : Dev nD) : Pipeline.ΦA spec0 c ⊢ (dats (F := F) m 0 c).Φ 0 := by
  rewrite [show (dats m 0 c).Φ 0 = Phi m c 0 from rfl]
  unfold Pipeline.ΦA Phi
  rewrite [scopedRest0_eq]
  simp only [owns_whole]
  iintro ⟨⟨⟨%f0, H0⟩, ⟨%f1, H1⟩, ⟨%f2, H2⟩, ⟨%f3, H3⟩, ⟨%f4, H4⟩⟩, Hg⟩
  iexists f0, f1, f2, f3, f4
  isplitr
  · ipureintro; exact Inv.zero m c f0 f1 f2 f3 f4
  isplitl [H0]; · iexact H0
  isplitl [H1]; · iexact H1
  isplitl [H2]; · iexact H2
  isplitl [H3]; · iexact H3
  isplitl [H4]; · iexact H4
  iexact Hg

/-- The invariant after the last point forgets what the scratch holds. -/
theorem leave (c : Dev nD) : (dats (F := F) m 0 c).Φ (Fin.last cfg0.N) ⊢ Pipeline.ΦA spec0 c := by
  rewrite [show (dats m 0 c).Φ (Fin.last cfg0.N) = Phi m c cfg0.N from rfl]
  unfold Pipeline.ΦA Phi
  rewrite [scopedRest0_eq]
  simp only [owns_whole]
  iintro ⟨%f0, %f1, %f2, %f3, %f4, -, H0, H1, H2, H3, H4, Hg⟩
  isplitr [Hg]
  · isplitl [H0]; · iexists f0; iexact H0
    isplitl [H1]; · iexists f1; iexact H1
    isplitl [H2]; · iexists f2; iexact H2
    isplitl [H3]; · iexists f3; iexact H3
    iexists f4; iexact H4
  iexact Hg

/-! ## The run -/

variable (ρ : Dev nD → PrngReg)

set_option backward.isDefEq.respectTransparency.types false in
set_option maxHeartbeats 4000000 in
/-- Every run from `m` with counters at zero ends with the arrays at what the proof data says and the counters at zero. -/
theorem run_all : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_keeps m c).loose) (hshare := fun c => (dats m 0 c).share_full fun _ => rfl) (howed := fun _ _ => rfl) (V := V m)
    (hmain := hmain m Variants.none) (hA := A_eq m) (hin := enter m) (hout := leave m)

/-- Every run ends with the arguments as launched and the counters at zero. -/
theorem frame : θ_run defs (onTc (τ := τ) (main (F := F))) ⟨m, fun _ => 0, ρ⟩
    (fun r => (∀ c : Dev nD,
        r.2.mem ((c.tc : Thread nD τ).loc main_arg0) = m ((c.tc : Thread nD τ).loc main_arg0) ∧
        r.2.mem ((c.tc : Thread nD τ).loc main_arg1) = m ((c.tc : Thread nD τ).loc main_arg1) ∧
        r.2.mem ((c.tc : Thread nD τ).loc main_arg2) = m ((c.tc : Thread nD τ).loc main_arg2) ∧
        r.2.mem ((c.tc : Thread nD τ).loc main_arg3) = m ((c.tc : Thread nD τ).loc main_arg3) ∧
        r.2.mem ((c.tc : Thread nD τ).loc main_arg4) = m ((c.tc : Thread nD τ).loc main_arg4) ∧
        r.2.mem ((c.tc : Thread nD τ).loc main_arg5) = m ((c.tc : Thread nD τ).loc main_arg5) ∧
        r.2.mem ((c.tc : Thread nD τ).loc main_arg6) = m ((c.tc : Thread nD τ).loc main_arg6) ∧
        r.2.mem ((c.tc : Thread nD τ).loc main_arg7) = m ((c.tc : Thread nD τ).loc main_arg7) ∧
        r.2.mem ((c.tc : Thread nD τ).loc main_arg8) = m ((c.tc : Thread nD τ).loc main_arg8) ∧
        r.2.mem ((c.tc : Thread nD τ).loc main_arg9) = m ((c.tc : Thread nD τ).loc main_arg9)) ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.KernelIdeal.Body

end
-- ==== Proof.Value.Spec.lean ====
module

public import Idealize.ShloMosaic.PureOps.Ideal

@[expose] public section

noncomputable section

/-! The block over the real numbers: the normalisation of the columns and the graph convolution of
order three, each in the reference's form and in the kernel's, and the equality of the two forms. -/

namespace Cert.Spec

/-- A real matrix. -/
abbrev Mat (n m : ℕ) := Fin n → Fin m → ℝ

/-- The mean of a column over its 4096 rows. -/
def mean (v : Mat 4096 128) (c : Fin 128) : ℝ := (∑ r, v r c) / 4096

/-- The mean squared distance of a column from its mean. -/
def var (v : Mat 4096 128) (c : Fin 128) : ℝ :=
  (∑ r, (v r c - mean v c) * (v r c - mean v c)) / 4096

/-- The columns moved to mean zero, divided by the root of the variance (plus `e`), scaled by `g` and moved by `b`. -/
def norm (e : ℝ) (v : Mat 4096 128) (g b : Fin 128 → ℝ) : Mat 4096 128 := fun r c =>
  (v r c - mean v c) / Real.sqrt (var v c + e) * g c + b c

/-- The product of two matrices. -/
def mul {n k m : ℕ} (a : Mat n k) (b : Mat k m) : Mat n m := fun r c => ∑ j, a r j * b j c

/-- The graph convolution of order three as the reference adds it: the terms `x`, `L x` and
`2 L (L x) - x`, each times its own weights. -/
def cheb (L : Mat 4096 4096) (x : Mat 4096 128) (w : Fin 3 → Mat 128 128) : Mat 4096 128 := fun r c =>
  mul x (w 0) r c + mul (mul L x) (w 1) r c + mul (fun r j => 2 * mul L (mul L x) r j - x r j) (w 2) r c

/-- The maximum with zero, entry by entry. -/
def relu (v : Mat 4096 128) : Mat 4096 128 := fun r c => max (v r c) 0

/-- The hidden layer: convolution, bias, maximum with zero. -/
def hidden (L : Mat 4096 4096) (x : Mat 4096 128) (w : Fin 3 → Mat 128 128) (b : Fin 128 → ℝ) : Mat 4096 128 :=
  relu fun r c => cheb L x w r c + b c

/-- An entry of the block's result, `d` being its entry of the last bias, which may be any extended real. -/
def blockEntry (e : ℝ) (x : Mat 4096 128) (L : Mat 4096 4096) (g b : Fin 128 → ℝ) (w : Fin 3 → Mat 128 128)
    (h g' b' : Fin 128 → ℝ) (w' : Fin 3 → Mat 128 128) (r : Fin 4096) (c : Fin 128) (d : EReal) : EReal :=
  max (((norm e x g b r c : ℝ) : EReal)
    + (((cheb L (norm e (hidden L (norm e x g b) w h) g' b') w' r c : ℝ) : EReal) + d)) 0

/-- A variance is never negative. -/
theorem var_nonneg (v : Mat 4096 128) (c : Fin 128) : 0 ≤ var v c :=
  div_nonneg (Finset.sum_nonneg fun _ _ => mul_self_nonneg _) (by norm_num)

/-- The mean of the squares less the square of the mean is the variance. -/
theorem var_eq (v : Mat 4096 128) (c : Fin 128) :
    (∑ r, v r c * v r c) / 4096 - mean v c * mean v c = var v c := by
  have h : ∀ r, (v r c - mean v c) * (v r c - mean v c)
      = v r c * v r c - 2 * mean v c * v r c + mean v c * mean v c := fun r => by ring
  have hs : ∑ r, v r c = 4096 * mean v c := by unfold mean; ring
  unfold var
  simp only [h, Finset.sum_add_distrib, Finset.sum_sub_distrib, ← Finset.mul_sum, hs, Finset.sum_const,
    Finset.card_univ, Fintype.card_fin, nsmul_eq_mul]
  push_cast
  ring

/-- One product and one sum per entry give the normalised entry. -/
theorem norm_affine (e : ℝ) (v : Mat 4096 128) (g b : Fin 128 → ℝ) (r : Fin 4096) (c : Fin 128) :
    v r c * (g c * (Real.sqrt (var v c + e))⁻¹) + (b c - mean v c * (g c * (Real.sqrt (var v c + e))⁻¹))
      = norm e v g b r c := by
  unfold norm
  ring

/-- With the weights combined first the convolution takes three products of `x`, `L x` and `L (L x)`. -/
theorem cheb_folded (L : Mat 4096 4096) (x : Mat 4096 128) (w : Fin 3 → Mat 128 128) (r : Fin 4096) (c : Fin 128) :
    mul x (fun j c => w 0 j c - w 2 j c) r c + mul (mul L x) (w 1) r c
        + mul (mul L (mul L x)) (fun j c => 2 * w 2 j c) r c
      = cheb L x w r c := by
  unfold cheb mul
  simp only [mul_sub, sub_mul, Finset.sum_sub_distrib]
  have h : ∀ j, (∑ k, L r k * ∑ l, L k l * x l j) * (2 * w 2 j c)
      = 2 * (∑ k, L r k * ∑ l, L k l * x l j) * w 2 j c := fun j => by ring
  simp only [h]
  ring

end Cert.Spec

end
-- ==== Proof.Value.Lift.lean ====
module

public import proofs.«01_k».proof.Proof.Value.Spec
public import Idealize.ShloMosaic.PureOps.Ideal.Laws

@[expose] public section

noncomputable section

/-! What the extended reals' operations give of real numbers, and the constants of the two programs. -/

namespace Cert.Lift

open Idealize.ShloMosaic

/-- A sum of reals is the real sum. -/
theorem sum_coe {n : ℕ} (f : Fin n → ℝ) : (∑ k, ((f k : ℝ) : EReal)) = ((∑ k, f k : ℝ) : EReal) := by
  induction n with
  | zero => simp
  | succ n ih => rw [Fin.sum_univ_castSucc, Fin.sum_univ_castSucc, ih, EReal.coe_add]

/-- A sum of products of reals is the real sum of products. -/
theorem dot_coe {n : ℕ} (f g : Fin n → ℝ) :
    (∑ k, ((f k : ℝ) : EReal) * ((g k : ℝ) : EReal)) = ((∑ k, f k * g k : ℝ) : EReal) := by
  rw [← sum_coe]
  exact Finset.sum_congr rfl fun k _ => (EReal.coe_mul _ _).symm

/-- A quotient of reals by a real that is not zero. -/
theorem div_coe_coe (x y : ℝ) (h : y ≠ 0) : Ideal.div (x : EReal) (y : EReal) = ((x / y : ℝ) : EReal) := by
  rw [Ideal.div_coe h, ← EReal.coe_mul]
  congr 1
  ring

/-- The root of a real that is not negative. -/
theorem sqrt_coe_nonneg (x : ℝ) (h : 0 ≤ x) : Ideal.sqrt (x : EReal) = ((Real.sqrt x : ℝ) : EReal) := by
  rw [Ideal.sqrt_coe, if_neg (not_lt.2 h)]

/-- One over the root of a positive real. -/
theorem rsqrt_coe_pos (x : ℝ) (h : 0 < x) : Ideal.rsqrt (x : EReal) = (((Real.sqrt x)⁻¹ : ℝ) : EReal) := by
  rw [Ideal.rsqrt_coe, if_neg (not_lt.2 h.le), if_neg h.ne']

/-- The larger of a real and zero. -/
theorem max_coe_zero (x : ℝ) : max (x : EReal) 0 = ((max x 0 : ℝ) : EReal) := by
  rw [← EReal.coe_zero]
  exact (EReal.coe_strictMono.monotone.map_max (a := x) (b := 0)).symm

/-- The number of rows. -/
theorem rows_const : Ideal.ofBits .f32 0x45800000#32 = ((4096 : ℝ) : EReal) := by
  simp [Ideal.ofBits, Ideal.ieee, -EReal.coe_mul]; norm_num

/-- The constant two. -/
theorem two_const : Ideal.ofBits .f32 0x40000000#32 = ((2 : ℝ) : EReal) := by
  simp [Ideal.ofBits, Ideal.ieee, -EReal.coe_mul]; norm_num

/-- The infinity the precondition compares with. -/
theorem inf_const : Ideal.ofBits .f32 0x7F800000#32 = ⊤ := by
  simp [Ideal.ofBits, Ideal.ieee]

/-- The small number added to a variance: 10995116 times two to the power -40. -/
def eps : ℝ := 10995116 * (2 : ℝ) ^ (-40 : Int)

/-- It is positive. -/
theorem eps_pos : 0 < eps := by unfold eps; positivity

/-- The constant of both programs is that number. -/
theorem eps_const : Ideal.ofBits .f32 0x3727C5AC#32 = ((eps : ℝ) : EReal) := by
  simp [Ideal.ofBits, Ideal.ieee, -EReal.coe_mul, eps]

end Cert.Lift

end
-- ==== Proof.Value.Payload.lean ====
module

public import proofs.«01_k».proof.Proof.Value.Lift
public import proofs.«01_k».proof.Proof.Gen.KernelIdeal.Skeleton
public import Idealize.ShloMosaic.Lib.Pointwise

@[expose] public section

set_option maxRecDepth 16384

noncomputable section

/-! The kernel's stored values over arguments that hold real numbers. -/

namespace Cert.KernelIdeal.Pure

open Idealize.ShloMosaic Idealize.ShloMosaic.TcCoe Idealize.SL.Sem
open Cert.KernelIdeal Cert.KernelIdeal.Gen Cert.Spec Cert.Lift

/-- The normalisation of `x`, as the kernel stores it at its first point. -/
theorem pay1_real (x : FVec Ideal S4096x128 .f32) (g b : FVec Ideal S1x128 .f32)
    (X : Mat 4096 128) (G B : Fin 128 → ℝ)
    (hx : ∀ (r : Fin 4096) (c : Fin 128), x (ix2 r c) = ((X r c : ℝ) : EReal))
    (hg : ∀ c : Fin 128, g (ix2 0 c) = ((G c : ℝ) : EReal))
    (hb : ∀ c : Fin 128, b (ix2 0 c) = ((B c : ℝ) : EReal)) (r : Fin 4096) (c : Fin 128) :
    k0_pay1 (F := Ideal) x g b (ix2 r c) = ((norm eps X G B r c : ℝ) : EReal) := by
  have hm : Ideal.div (∑ k, ((X k c : ℝ) : EReal)) (Ideal.ofBits .f32 0x45800000#32) = ((mean X c : ℝ) : EReal) := by
    rw [sum_coe, rows_const, div_coe_coe _ _ (by norm_num)]; rfl
  have hq : Ideal.div (∑ k, ((X k c : ℝ) : EReal) * ((X k c : ℝ) : EReal)) (Ideal.ofBits .f32 0x45800000#32)
      = (((∑ k, X k c * X k c) / 4096 : ℝ) : EReal) := by
    rw [dot_coe, rows_const, div_coe_coe _ _ (by norm_num)]
  have hpos : 0 < var X c + eps := add_pos_of_nonneg_of_pos (var_nonneg X c) eps_pos
  pointwise [k0_pay1, hx, hg, hb]
  simp only [hm, hq, eps_const]
  rw [← EReal.coe_mul, ← EReal.coe_sub, var_eq, ← EReal.coe_add, rsqrt_coe_pos _ hpos]
  simp only [← EReal.coe_mul, ← EReal.coe_sub, ← EReal.coe_add]
  rw [norm_affine]

/-- The second normalisation is the first one's text. -/
theorem pay5_real (x : FVec Ideal S4096x128 .f32) (g b : FVec Ideal S1x128 .f32)
    (X : Mat 4096 128) (G B : Fin 128 → ℝ)
    (hx : ∀ (r : Fin 4096) (c : Fin 128), x (ix2 r c) = ((X r c : ℝ) : EReal))
    (hg : ∀ c : Fin 128, g (ix2 0 c) = ((G c : ℝ) : EReal))
    (hb : ∀ c : Fin 128, b (ix2 0 c) = ((B c : ℝ) : EReal)) (r : Fin 4096) (c : Fin 128) :
    k0_pay5 (F := Ideal) x g b (ix2 r c) = ((norm eps X G B r c : ℝ) : EReal) :=
  pay1_real x g b X G B hx hg hb r c

/-- A product with the Laplacian held whole. -/
theorem pay6_real (L : FVec Ideal S4096x4096 .bf16) (y : FVec Ideal S4096x128 .bf16)
    (M : Mat 4096 4096) (Y : Mat 4096 128)
    (hL : ∀ (r k : Fin 4096), L (ix2 r k) = ((M r k : ℝ) : EReal))
    (hy : ∀ (r : Fin 4096) (c : Fin 128), y (ix2 r c) = ((Y r c : ℝ) : EReal)) (r : Fin 4096) (c : Fin 128) :
    k0_pay6 (F := Ideal) L y (ix2 r c) = ((mul M Y r c : ℝ) : EReal) := by
  pointwise [k0_pay6, hL, hy]
  exact dot_coe _ _

/-- A block of 256 rows of the Laplacian, stored as it came. -/
theorem pay3_read (l : FVec Ideal S256x4096 .f32) (r : Fin 256) (k : Fin 4096) :
    k0_pay3 (F := Ideal) l (ix2 r k) = l (ix2 r k) := by
  pointwise [k0_pay3, k0_pay2]

/-- A product with a block of 256 rows of the Laplacian. -/
theorem pay4_real (l : FVec Ideal S256x4096 .f32) (y : FVec Ideal S4096x128 .bf16)
    (M : Fin 256 → Fin 4096 → ℝ) (Y : Mat 4096 128)
    (hl : ∀ (r : Fin 256) (k : Fin 4096), l (ix2 r k) = ((M r k : ℝ) : EReal))
    (hy : ∀ (r : Fin 4096) (c : Fin 128), y (ix2 r c) = ((Y r c : ℝ) : EReal)) (r : Fin 256) (c : Fin 128) :
    k0_pay4 (F := Ideal) l y (ix2 r c) = ((mul M Y r c : ℝ) : EReal) := by
  pointwise [k0_pay4, k0_pay2, hl, hy]
  exact dot_coe _ _

/-- The convolution of the second layer: `x` itself, `L x`, and the weights as loaded; the bias is any
extended real. -/
theorem pay9_real (L : FVec Ideal S4096x4096 .bf16) (x s : FVec Ideal S4096x128 .bf16)
    (w0 w2 w1 w2' : FVec Ideal S1x128x128 .f32) (b : FVec Ideal S1x128 .f32)
    (M : Mat 4096 4096) (X : Mat 4096 128) (W : Fin 3 → Mat 128 128)
    (hL : ∀ (r k : Fin 4096), L (ix2 r k) = ((M r k : ℝ) : EReal))
    (hx : ∀ (r : Fin 4096) (c : Fin 128), x (ix2 r c) = ((X r c : ℝ) : EReal))
    (hs : ∀ (r : Fin 4096) (c : Fin 128), s (ix2 r c) = ((mul M X r c : ℝ) : EReal))
    (h0 : ∀ j c : Fin 128, w0 (ix3 0 j c) = ((W 0 j c : ℝ) : EReal))
    (h1 : ∀ j c : Fin 128, w1 (ix3 0 j c) = ((W 1 j c : ℝ) : EReal))
    (h2 : ∀ j c : Fin 128, w2 (ix3 0 j c) = ((W 2 j c : ℝ) : EReal))
    (h2' : ∀ j c : Fin 128, w2' (ix3 0 j c) = ((W 2 j c : ℝ) : EReal)) (r : Fin 4096) (c : Fin 128) :
    k0_pay9 (F := Ideal) L s x w0 w2 s w1 w2' b (ix2 r c) = ((cheb M X W r c : ℝ) : EReal) + b (ix2 0 c) := by
  pointwise [k0_pay9, hL, hx, hs, h0, h1, h2, h2']
  simp only [two_const, dot_coe, ← EReal.coe_mul, ← EReal.coe_sub, ← EReal.coe_add]
  simp only [sum_coe, ← EReal.coe_add]
  rw [← cheb_folded]
  rfl

/-- The first layer: the same with a real bias, and the maximum with zero. -/
theorem pay8_real (L : FVec Ideal S4096x4096 .bf16) (x s : FVec Ideal S4096x128 .bf16)
    (w0 w2 w1 w2' : FVec Ideal S1x128x128 .f32) (b : FVec Ideal S1x128 .f32)
    (M : Mat 4096 4096) (X : Mat 4096 128) (W : Fin 3 → Mat 128 128) (B : Fin 128 → ℝ)
    (hL : ∀ (r k : Fin 4096), L (ix2 r k) = ((M r k : ℝ) : EReal))
    (hx : ∀ (r : Fin 4096) (c : Fin 128), x (ix2 r c) = ((X r c : ℝ) : EReal))
    (hs : ∀ (r : Fin 4096) (c : Fin 128), s (ix2 r c) = ((mul M X r c : ℝ) : EReal))
    (h0 : ∀ j c : Fin 128, w0 (ix3 0 j c) = ((W 0 j c : ℝ) : EReal))
    (h1 : ∀ j c : Fin 128, w1 (ix3 0 j c) = ((W 1 j c : ℝ) : EReal))
    (h2 : ∀ j c : Fin 128, w2 (ix3 0 j c) = ((W 2 j c : ℝ) : EReal))
    (h2' : ∀ j c : Fin 128, w2' (ix3 0 j c) = ((W 2 j c : ℝ) : EReal))
    (hb : ∀ c : Fin 128, b (ix2 0 c) = ((B c : ℝ) : EReal)) (r : Fin 4096) (c : Fin 128) :
    k0_pay8 (F := Ideal) L s x w0 w2 s w1 w2' b (ix2 r c) = ((hidden M X W B r c : ℝ) : EReal) := by
  have h : k0_pay8 (F := Ideal) L s x w0 w2 s w1 w2' b (ix2 r c)
      = max (k0_pay9 (F := Ideal) L s x w0 w2 s w1 w2' b (ix2 r c)) 0 := by
    pointwise [k0_pay8, k0_pay9]
  rw [h, pay9_real L x s w0 w2 w1 w2' b M X W hL hx hs h0 h1 h2 h2' r c, hb, ← EReal.coe_add, max_coe_zero]
  rfl

/-- The result: the normalised input plus the second layer, and the maximum with zero. -/
theorem pay7_read (a : FVec Ideal S4096x128 .f32) (x : FVec Ideal S4096x128 .bf16) (r : Fin 4096) (c : Fin 128) :
    k0_pay7 (F := Ideal) a (k0_pay10 x) (ix2 r c) = max (x (ix2 r c) + a (ix2 r c)) 0 := by
  pointwise [k0_pay7, k0_pay10]

end Cert.KernelIdeal.Pure

end
-- ==== Proof.Value.Kernel.lean ====
module

public import proofs.«01_k».proof.Proof.Value.Payload
public import proofs.«01_k».proof.Proof.KernelIdeal.Run
public import Idealize.ShloMosaic.Lib.Pipeline.ValueKit

@[expose] public section

set_option maxRecDepth 16384

noncomputable section

/-! The kernel's result, read from the arguments. -/

namespace Cert.KernelIdeal.Pure

open Idealize.ShloMosaic Idealize.ShloMosaic.TcCoe Idealize.SL.Sem
open Idealize.ShloMosaic.Pipeline (Dat)
open Cert.KernelIdeal Cert.KernelIdeal.Gen Cert.KernelIdeal.Body Cert.Spec Cert.Lift

section Arrays

variable {F : FTy → Type} [FloatOps F]
variable (m : (ℓ : Loc nD τ sig) → Buf (Elt F) ℓ) (c : Dev nD)

/-- The block of the Laplacian at a point: the sixteen blocks in order, then the last one again. -/
theorem lap_index : ∀ t : Fin cfg0.N, win0_1.index t = ![min t.val 15, 0] :=
  (by decide +kernel : ∀ t : Fin grid0.N, _)

/-- A row of the Laplacian's block at the point that holds row `r`. -/
theorem lap_block (r : Fin 4096) (k : Fin 4096) (j : Fin 256) (hj : j.val = r.val % 256) :
    iblk m c 1 (ptOf r) (ix2 j k) = m ((c : Thread nD τ).loc main_arg1) (ix2 r k) := by
  have hp : (ptOf r).val = r.val / 256 := rfl
  have hr := r.isLt
  blk_ext [iblk, V, lap_index (ptOf r)]

/-- The result array after the run. -/
theorem out_array : (dats m 0 c).arrAt 10 (cfgs 0).N = OUT m c := by
  refine (dats m 0 c).arrAt_eq_of_after_last 10 ⟨18, by rw [show cfg0.N = 19 from N_0]; omega⟩ (by decide +kernel) _ fun j => ?_
  blk_simp
  rfl

end Arrays

variable (m : (ℓ : Loc nD τ sig) → Buf (Elt Ideal) ℓ) (c : Dev nD)

/-- The scale of the first normalisation as the kernel reads it: the argument as one row. -/
theorem row_v0 (k : Fin 128) : V m c main_v0 (ix2 0 k) = m ((c : Thread nD τ).loc main_arg2) (ix1 k) := by
  entry_read
  pointwise

/-- The shift of the first normalisation as the kernel reads it: the argument as one row. -/
theorem row_v1 (k : Fin 128) : V m c main_v1 (ix2 0 k) = m ((c : Thread nD τ).loc main_arg3) (ix1 k) := by
  entry_read
  pointwise

/-- The bias of the first layer as the kernel reads it: the argument as one row. -/
theorem row_v2 (k : Fin 128) : V m c main_v2 (ix2 0 k) = m ((c : Thread nD τ).loc main_arg5) (ix1 k) := by
  entry_read
  pointwise

/-- The scale of the second normalisation as the kernel reads it: the argument as one row. -/
theorem row_v3 (k : Fin 128) : V m c main_v3 (ix2 0 k) = m ((c : Thread nD τ).loc main_arg6) (ix1 k) := by
  entry_read
  pointwise

/-- The shift of the second normalisation as the kernel reads it: the argument as one row. -/
theorem row_v4 (k : Fin 128) : V m c main_v4 (ix2 0 k) = m ((c : Thread nD τ).loc main_arg7) (ix1 k) := by
  entry_read
  pointwise

/-- The bias of the second layer as the kernel reads it: the argument as one row. -/
theorem row_v5 (k : Fin 128) : V m c main_v5 (ix2 0 k) = m ((c : Thread nD τ).loc main_arg9) (ix1 k) := by
  entry_read
  pointwise

/-- One weight matrix of the three. -/
theorem W_read (k : Fin 3) (w : FVec Ideal S3x128x128 .f32)
    (h : ∀ a, (![k.val, 0, 0] : Fin 3 → ℕ) a + S1x128x128.size a ≤ S3x128x128.size a) (j l : Fin 128) :
    W_ (F := Ideal) k.val w h (ix3 0 j l) = w (ix3 k j l) := by
  unfold W_
  pointwise

/-- The Laplacian gathered block by block is the argument. -/
theorem LB_read (r k : Fin 4096) :
    LB m c (ix2 r k) = m ((c : Thread nD τ).loc main_arg1) (ix2 r k) := by
  have e : inBlock (n := 4096) (ix2 r k) = ix2 (⟨r.val % 256, Nat.mod_lt _ (by decide)⟩ : Fin 256) k := by
    funext a
    match a with
    | ⟨0, _⟩ => rfl
    | ⟨1, _⟩ => rfl
  show k0_pay3 (F := Ideal) (iblk m c 1 (ptOf r)) (inBlock (n := 4096) (ix2 r k)) = _
  rw [e, pay3_read]
  exact lap_block m c r k _ rfl

section Real

variable (X : Mat 4096 128) (M : Mat 4096 4096) (G B : Fin 128 → ℝ) (W : Fin 3 → Mat 128 128) (D G' B' : Fin 128 → ℝ)
  (W' : Fin 3 → Mat 128 128)

/-- Every argument but the last bias holds the given real numbers. -/
structure Holds : Prop where
  x : ∀ (r : Fin 4096) (k : Fin 128), m ((c : Thread nD τ).loc main_arg0) (ix2 r k) = ((X r k : ℝ) : EReal)
  lap : ∀ r k : Fin 4096, m ((c : Thread nD τ).loc main_arg1) (ix2 r k) = ((M r k : ℝ) : EReal)
  g : ∀ k : Fin 128, m ((c : Thread nD τ).loc main_arg2) (ix1 k) = ((G k : ℝ) : EReal)
  b : ∀ k : Fin 128, m ((c : Thread nD τ).loc main_arg3) (ix1 k) = ((B k : ℝ) : EReal)
  w : ∀ (k : Fin 3) (j l : Fin 128), m ((c : Thread nD τ).loc main_arg4) (ix3 k j l) = ((W k j l : ℝ) : EReal)
  d : ∀ k : Fin 128, m ((c : Thread nD τ).loc main_arg5) (ix1 k) = ((D k : ℝ) : EReal)
  g' : ∀ k : Fin 128, m ((c : Thread nD τ).loc main_arg6) (ix1 k) = ((G' k : ℝ) : EReal)
  b' : ∀ k : Fin 128, m ((c : Thread nD τ).loc main_arg7) (ix1 k) = ((B' k : ℝ) : EReal)
  w' : ∀ (k : Fin 3) (j l : Fin 128), m ((c : Thread nD τ).loc main_arg8) (ix3 k j l) = ((W' k j l : ℝ) : EReal)

variable {m c X M G B W D G' B' W'} (h : Holds m c X M G B W D G' B' W')

include h

/-- The normalised argument. -/
theorem XBN_real (r : Fin 4096) (k : Fin 128) : XBN m c (ix2 r k) = ((norm eps X G B r k : ℝ) : EReal) :=
  pay1_real (V m c main_arg0) (V m c main_v0) (V m c main_v1) X G B h.x
    (fun k => (row_v0 m c k).trans (h.g k)) (fun k => (row_v1 m c k).trans (h.b k)) r k

/-- The gathered Laplacian. -/
theorem LB_real (r k : Fin 4096) : LB m c (ix2 r k) = ((M r k : ℝ) : EReal) := (LB_read m c r k).trans (h.lap r k)

/-- The Laplacian times the normalised argument, gathered block by block. -/
theorem X1_real (r : Fin 4096) (k : Fin 128) : X1 m c (ix2 r k) = ((mul M (norm eps X G B) r k : ℝ) : EReal) := by
  have e : inBlock (n := 128) (ix2 r k) = ix2 (⟨r.val % 256, Nat.mod_lt _ (by decide)⟩ : Fin 256) k := by
    funext a
    match a with
    | ⟨0, _⟩ => rfl
    | ⟨1, _⟩ => rfl
  have hr := r.isLt
  show k0_pay4 (F := Ideal) (iblk m c 1 (ptOf r)) (XBN m c) (inBlock (n := 128) (ix2 r k)) = _
  rw [e, pay4_real (iblk m c 1 (ptOf r)) (XBN m c)
    (fun j => M ⟨256 * (r.val / 256) + j.val, by have := j.isLt; omega⟩) (norm eps X G B) ?_ (XBN_real h)]
  · have er : (⟨256 * (r.val / 256) + r.val % 256, by omega⟩ : Fin 4096) = r := Fin.ext (by simp; omega)
    unfold mul
    simp only [er]
  · intro j k
    have hj := j.isLt
    have hp : ptOf r = ptOf (⟨256 * (r.val / 256) + j.val, by omega⟩ : Fin 4096) :=
      Fin.ext (show r.val / 256 = (256 * (r.val / 256) + j.val) / 256 by omega)
    rw [hp, lap_block m c _ k j (show j.val = (256 * (r.val / 256) + j.val) % 256 by omega)]
    exact h.lap _ k

/-- The hidden layer after its normalisation. -/
theorem Y0_real (r : Fin 4096) (k : Fin 128) : Y0 m c (ix2 r k)
    = ((norm eps (hidden M (norm eps X G B) W D) G' B' r k : ℝ) : EReal) :=
  pay5_real _ (V m c main_v3) (V m c main_v4) (hidden M (norm eps X G B) W D) G' B'
    (pay8_real (LB m c) (XBN m c) (X1 m c) _ _ _ _ (V m c main_v2) M (norm eps X G B) W D (LB_real h) (XBN_real h) (X1_real h)
      (fun j l => (W_read 0 _ _ j l).trans (h.w 0 j l)) (fun j l => (W_read 1 _ _ j l).trans (h.w 1 j l))
      (fun j l => (W_read 2 _ _ j l).trans (h.w 2 j l)) (fun j l => (W_read 2 _ _ j l).trans (h.w 2 j l))
      (fun k => (row_v2 m c k).trans (h.d k)))
    (fun k => (row_v3 m c k).trans (h.g' k)) (fun k => (row_v4 m c k).trans (h.b' k)) r k

/-- The Laplacian times that. -/
theorem Y1_real (r : Fin 4096) (k : Fin 128) : Y1 m c (ix2 r k)
    = ((mul M (norm eps (hidden M (norm eps X G B) W D) G' B') r k : ℝ) : EReal) :=
  pay6_real (LB m c) (Y0 m c) M _ (LB_real h) (Y0_real h) r k

/-- The kernel's result. -/
theorem OUT_real (r : Fin 4096) (k : Fin 128) : OUT m c (ix2 r k)
    = blockEntry eps X M G B W D G' B' W' r k (m ((c : Thread nD τ).loc main_arg9) (ix1 k)) := by
  unfold OUT
  rw [pay7_read, XBN_real h]
  refine congrArg (fun z => max (((norm eps X G B r k : ℝ) : EReal) + z) 0)
    ((pay9_real (LB m c) (Y0 m c) (Y1 m c) _ _ _ _ (V m c main_v5) M _ W' (LB_real h) (Y0_real h) (Y1_real h)
      (fun j l => (W_read 0 _ _ j l).trans (h.w' 0 j l)) (fun j l => (W_read 1 _ _ j l).trans (h.w' 1 j l))
      (fun j l => (W_read 2 _ _ j l).trans (h.w' 2 j l)) (fun j l => (W_read 2 _ _ j l).trans (h.w' 2 j l)) r k).trans ?_)
  rw [row_v5]

end Real

end Cert.KernelIdeal.Pure

end
-- ==== Proof.Value.Reference.lean ====
module

public import proofs.«01_k».proof.Proof.Value.Lift
public import proofs.«01_k».proof.Proof.Gen.ReferenceIdeal.Read
public import Idealize.ShloMosaic.Lib.Pointwise

@[expose] public section

set_option maxRecDepth 16384

noncomputable section

/-! The reference's values over arguments that hold real numbers. -/

namespace Cert.ReferenceIdeal.Pure

open Idealize.ShloMosaic Idealize.ShloMosaic.TcCoe Idealize.SL.Sem
open Cert.ReferenceIdeal Cert.ReferenceIdeal.Gen Cert.ReferenceIdeal.Read Cert.Spec Cert.Lift

/-- The number of degrees of freedom of the variance: all the rows. -/
theorem dof (i : S_.Idx) : val_main_call0_v8 (F := Ideal) i = ((4096 : ℝ) : EReal) := by
  pointwise [val_main_call0_v8, val_main_call0_cst_1, val_main_call0_v7, val_main_c]
  rw [rows_const]
  show ((4096 : ℝ) : EReal) - (((0#32).toInt : ℝ) : EReal) = _
  simp

/-- The variance. -/
theorem var_real (x : FVec Ideal S4096x128 .f32) (X : Mat 4096 128)
    (hx : ∀ (r : Fin 4096) (c : Fin 128), x (ix2 r c) = ((X r c : ℝ) : EReal)) (c : Fin 128) :
    val_main_v3 (F := Ideal) x (ix1 c) = ((var X c : ℝ) : EReal) := by
  have hm : Ideal.div (∑ k, ((X k c : ℝ) : EReal)) (Ideal.ofBits .f32 0x45800000#32) = ((mean X c : ℝ) : EReal) := by
    rw [sum_coe, rows_const, div_coe_coe _ _ (by norm_num)]; rfl
  pointwise [val_main_v3, val_main_call0_v12, val_main_call0_cst_3, val_main_call0_v11, val_main_call0_v10, dof,
    val_main_call0_v9, val_main_call0_cst_2, val_main_call0_v6, val_main_call0_v5, val_main_call0_v4,
    val_main_call0_v3, val_main_call0_v2, val_main_call0_cst_0, val_main_call0_v1, val_main_call0_v0,
    val_main_call0_cst, hx]
  have hpos : (0 : EReal) < ((4096 : ℝ) : EReal) := by exact_mod_cast (by norm_num : (0 : ℝ) < 4096)
  rw [if_pos hpos]
  simp only [hm, ← EReal.coe_sub]
  rw [dot_coe, div_coe_coe _ _ (by norm_num)]
  rfl

/-- The normalisation. -/
theorem norm_real (x : FVec Ideal S4096x128 .f32) (g b : FVec Ideal S128 .f32)
    (X : Mat 4096 128) (G B : Fin 128 → ℝ)
    (hx : ∀ (r : Fin 4096) (c : Fin 128), x (ix2 r c) = ((X r c : ℝ) : EReal))
    (hg : ∀ c : Fin 128, g (ix1 c) = ((G c : ℝ) : EReal))
    (hb : ∀ c : Fin 128, b (ix1 c) = ((B c : ℝ) : EReal)) (r : Fin 4096) (c : Fin 128) :
    val_main_v18 (F := Ideal) x g b (ix2 r c) = ((norm eps X G B r c : ℝ) : EReal) := by
  have hm : Ideal.div (∑ k, ((X k c : ℝ) : EReal)) (Ideal.ofBits .f32 0x45800000#32) = ((mean X c : ℝ) : EReal) := by
    rw [sum_coe, rows_const, div_coe_coe _ _ (by norm_num)]; rfl
  have hpos : 0 < var X c + eps := add_pos_of_nonneg_of_pos (var_nonneg X c) eps_pos
  have hv := var_real x X hx
  pointwise [val_main_v18, val_main_v17, val_main_v16, val_main_v15, val_main_v14, val_main_v13, val_main_v12,
    val_main_v11, val_main_v10, val_main_v9, val_main_v8, val_main_v7, val_main_cst_1, val_main_v6, val_main_v5,
    val_main_v4, val_main_v2, val_main_v1, val_main_cst_0, val_main_v0, val_main_cst, hv, hx, hg, hb]
  simp only [hm, eps_const]
  rw [← EReal.coe_sub, ← EReal.coe_add, sqrt_coe_nonneg _ hpos.le,
    div_coe_coe _ _ (Real.sqrt_ne_zero'.2 hpos), ← EReal.coe_mul, ← EReal.coe_add]
  rfl

/-- The first convolution, of an input that holds real numbers. -/
theorem conv1_real (x : FVec Ideal S4096x128 .f32) (L : FVec Ideal S4096x4096 .f32) (g b : FVec Ideal S128 .f32)
    (w : FVec Ideal S3x128x128 .f32) (M : Mat 4096 4096) (X : Mat 4096 128) (W : Fin 3 → Mat 128 128)
    (hL : ∀ r k : Fin 4096, L (ix2 r k) = ((M r k : ℝ) : EReal))
    (hx : ∀ (r : Fin 4096) (c : Fin 128), val_main_v18 (F := Ideal) x g b (ix2 r c) = ((X r c : ℝ) : EReal))
    (hw : ∀ (k : Fin 3) (j c : Fin 128), w (ix3 k j c) = ((W k j c : ℝ) : EReal)) (r : Fin 4096) (c : Fin 128) :
    val_main_v34 (F := Ideal) x L g b w (ix2 r c) = ((cheb M X W r c : ℝ) : EReal) := by
  pointwise [val_main_v34, val_main_v33, val_main_v32, val_main_v31, val_main_v30, val_main_v29, val_main_v28,
    val_main_cst_2, val_main_v27, val_main_v26, val_main_v25, val_main_v24, val_main_v23, val_main_v22, val_main_v21,
    val_main_v20, val_main_v19, hL, hx, hw]
  simp only [cheb, mul, two_const, EReal.coe_add, EReal.coe_mul, EReal.coe_sub, ← sum_coe]

/-- The hidden layer: the first convolution, its bias, the maximum with zero. -/
theorem hidden_real (x : FVec Ideal S4096x128 .f32) (L : FVec Ideal S4096x4096 .f32) (g b : FVec Ideal S128 .f32)
    (w : FVec Ideal S3x128x128 .f32) (d : FVec Ideal S128 .f32)
    (M : Mat 4096 4096) (X : Mat 4096 128) (W : Fin 3 → Mat 128 128) (D : Fin 128 → ℝ)
    (hL : ∀ r k : Fin 4096, L (ix2 r k) = ((M r k : ℝ) : EReal))
    (hx : ∀ (r : Fin 4096) (c : Fin 128), val_main_v18 (F := Ideal) x g b (ix2 r c) = ((X r c : ℝ) : EReal))
    (hw : ∀ (k : Fin 3) (j c : Fin 128), w (ix3 k j c) = ((W k j c : ℝ) : EReal))
    (hd : ∀ c : Fin 128, d (ix1 c) = ((D c : ℝ) : EReal)) (r : Fin 4096) (c : Fin 128) :
    val_main_v38 (F := Ideal) x L g b w d (ix2 r c) = ((hidden M X W D r c : ℝ) : EReal) := by
  have hc := conv1_real x L g b w M X W hL hx hw
  pointwise [val_main_v38, val_main_call1_v0, val_main_call1_cst, val_main_v37, val_main_v36, val_main_v35, hc, hd]
  rw [← EReal.coe_add, max_coe_zero]
  rfl

/-- The second normalisation is the first one's text over the hidden layer. -/
theorem second_norm (x : FVec Ideal S4096x128 .f32) (L : FVec Ideal S4096x4096 .f32) (g b : FVec Ideal S128 .f32)
    (w : FVec Ideal S3x128x128 .f32) (d g' b' : FVec Ideal S128 .f32) :
    val_main_v57 (F := Ideal) x L g b w d g' b'
      = val_main_v18 (F := Ideal) (val_main_v38 (F := Ideal) x L g b w d) g' b' := rfl

/-- The second convolution is the first one's text over the hidden layer. -/
theorem second_conv (x : FVec Ideal S4096x128 .f32) (L : FVec Ideal S4096x4096 .f32) (g b : FVec Ideal S128 .f32)
    (w : FVec Ideal S3x128x128 .f32) (d g' b' : FVec Ideal S128 .f32) (w' : FVec Ideal S3x128x128 .f32) :
    val_main_v73 (F := Ideal) x L g b w d g' b' w'
      = val_main_v34 (F := Ideal) (val_main_v38 (F := Ideal) x L g b w d) L g' b' w' := rfl

/-- The reference's result: every argument but the last bias holds real numbers. -/
theorem result_real (x : FVec Ideal S4096x128 .f32) (L : FVec Ideal S4096x4096 .f32) (g b : FVec Ideal S128 .f32)
    (w : FVec Ideal S3x128x128 .f32) (d g' b' : FVec Ideal S128 .f32) (w' : FVec Ideal S3x128x128 .f32)
    (d' : FVec Ideal S128 .f32)
    (X : Mat 4096 128) (M : Mat 4096 4096) (G B : Fin 128 → ℝ) (W : Fin 3 → Mat 128 128) (D G' B' : Fin 128 → ℝ)
    (W' : Fin 3 → Mat 128 128)
    (hx : ∀ (r : Fin 4096) (c : Fin 128), x (ix2 r c) = ((X r c : ℝ) : EReal))
    (hL : ∀ r k : Fin 4096, L (ix2 r k) = ((M r k : ℝ) : EReal))
    (hg : ∀ c : Fin 128, g (ix1 c) = ((G c : ℝ) : EReal))
    (hb : ∀ c : Fin 128, b (ix1 c) = ((B c : ℝ) : EReal))
    (hw : ∀ (k : Fin 3) (j c : Fin 128), w (ix3 k j c) = ((W k j c : ℝ) : EReal))
    (hd : ∀ c : Fin 128, d (ix1 c) = ((D c : ℝ) : EReal))
    (hg' : ∀ c : Fin 128, g' (ix1 c) = ((G' c : ℝ) : EReal))
    (hb' : ∀ c : Fin 128, b' (ix1 c) = ((B' c : ℝ) : EReal))
    (hw' : ∀ (k : Fin 3) (j c : Fin 128), w' (ix3 k j c) = ((W' k j c : ℝ) : EReal)) (r : Fin 4096) (c : Fin 128) :
    val_main_v78 (F := Ideal) x L g b w d g' b' w' d' (ix2 r c)
      = blockEntry eps X M G B W D G' B' W' r c (d' (ix1 c)) := by
  have hn := norm_real x g b X G B hx hg hb
  have hh := hidden_real x L g b w d M (norm eps X G B) W D hL hn hw hd
  have hn' := norm_real _ g' b' _ G' B' hh hg' hb'
  have hc := conv1_real _ L g' b' w' M _ W' hL hn' hw'
  pointwise [val_main_v78, val_main_call3_v0, val_main_call3_cst, val_main_v77, val_main_v76, val_main_v75,
    val_main_v74, second_conv, hn, hc]
  rfl

end Cert.ReferenceIdeal.Pure

end
-- ==== Proof.Value.Finite.lean ====
module

public import proofs.«01_k».proof.Proof.Value.Lift
public import proofs.«01_k».proof.Proof.Gen.Pre_finite
public import Idealize.ShloMosaic.Lib.Pointwise
public import Idealize.ShloMosaic.Lib.ReduceAll

@[expose] public section

set_option maxRecDepth 16384

noncomputable section

/-! What the precondition says: every entry of every argument but the last bias is a real number. -/

namespace Cert.Pre_finite.Pure

open Idealize.ShloMosaic Idealize.ShloMosaic.TcCoe Idealize.SL.Sem
open Cert.Pre_finite Cert.Pre_finite.Gen Cert.Lift

/-- An extended real whose absolute value lies below infinity is real. -/
theorem real_of_abs_lt (a : EReal) (h : Ideal.cmp .olt (max a (-a)) ⊤ = 1#1) : ∃ r : ℝ, a = (r : EReal) := by
  induction a with
  | bot => simp [Ideal.cmp] at h
  | coe r => exact ⟨r, rfl⟩
  | top => simp [Ideal.cmp] at h

/-- The only index of a scalar. -/
def pt : S_.Idx := fun a => a.elim0

instance : Subsingleton S_.Idx := ⟨fun a b => funext fun x => x.elim0⟩

/-- One conjunct of the precondition, read at an index. -/
theorem real_of_all {s : Shape} {axes : List (Fin s.rank)} (x : FVec Ideal s .f32) (hb : S_.BroadcastsInDim s (![] : Fin 0 → Fin s.rank))
    (hr : s.ReducesTo axes S_)
    (h : Host.reduce IntOp.andi (cmpf .olt (Host.absf x) (broadcastInDim s ![] hb (constant S_ .f32 0x7F800000#32)))
      (constantI S_ 1 1#1) hr h_S_ pt = 1#1) (i : s.Idx) : ∃ r : ℝ, x i = (r : EReal) := by
  have e := Host.reduce_andi_all _ _ hr h_S_ pt h i
  apply real_of_abs_lt
  rw [← inf_const]
  exact e

/-- The precondition taken apart. -/
theorem real_of_finite (x : FVec Ideal S4096x128 .f32) (L : FVec Ideal S4096x4096 .f32) (g b : FVec Ideal S128 .f32)
    (w : FVec Ideal S3x128x128 .f32) (d g' b' : FVec Ideal S128 .f32) (w' : FVec Ideal S3x128x128 .f32)
    (d' : FVec Ideal S128 .f32) (h : fn (F := Ideal) x L g b w d g' b' w' d' = fun _ => 1#1) :
    (∀ i, ∃ r : ℝ, x i = (r : EReal)) ∧ (∀ i, ∃ r : ℝ, L i = (r : EReal)) ∧ (∀ i, ∃ r : ℝ, g i = (r : EReal))
      ∧ (∀ i, ∃ r : ℝ, b i = (r : EReal)) ∧ (∀ i, ∃ r : ℝ, w i = (r : EReal)) ∧ (∀ i, ∃ r : ℝ, d i = (r : EReal))
      ∧ (∀ i, ∃ r : ℝ, g' i = (r : EReal)) ∧ (∀ i, ∃ r : ℝ, b' i = (r : EReal)) ∧ (∀ i, ∃ r : ℝ, w' i = (r : EReal)) := by
  have h0 := congrFun h pt
  dsimp only [fn, fn_part1, fn_part2] at h0
  obtain ⟨h0, hw'⟩ := IntOp.andi_eq_one.1 h0
  obtain ⟨h0, hb'⟩ := IntOp.andi_eq_one.1 h0
  obtain ⟨h0, hg'⟩ := IntOp.andi_eq_one.1 h0
  obtain ⟨h0, hd⟩ := IntOp.andi_eq_one.1 h0
  obtain ⟨h0, hw⟩ := IntOp.andi_eq_one.1 h0
  obtain ⟨h0, hb⟩ := IntOp.andi_eq_one.1 h0
  obtain ⟨h0, hg⟩ := IntOp.andi_eq_one.1 h0
  obtain ⟨hx, hL⟩ := IntOp.andi_eq_one.1 h0
  exact ⟨real_of_all x _ _ hx, real_of_all L _ _ hL, real_of_all g _ _ hg, real_of_all b _ _ hb, real_of_all w _ _ hw,
    real_of_all d _ _ hd, real_of_all g' _ _ hg', real_of_all b' _ _ hb', real_of_all w' _ _ hw'⟩

end Cert.Pre_finite.Pure

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Kernel.Run
public import proofs.«01_k».proof.Proof.KernelIdeal.Run
public import proofs.«01_k».proof.Proof.Value.Kernel
public import proofs.«01_k».proof.Proof.Value.Reference
public import proofs.«01_k».proof.Proof.Value.Finite
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs, keeps its arguments and leaves every counter at zero. -/
theorem frame_kernel : Cert.quiescent_Kernel := fun m ρ _ => Cert.Kernel.Body.frame m ρ

/-- So does the kernel over the extended reals. -/
theorem frame_kernelIdeal : Cert.quiescent_KernelIdeal := fun m ρ _ => Cert.KernelIdeal.Body.frame m ρ

/-- So does the reference, which has no counter at all. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Over real arguments the kernel's result is the reference's. -/
theorem result_eq (m : (ℓ : Loc Cert.KernelIdeal.nD Cert.KernelIdeal.τ Cert.KernelIdeal.sig) → Buf (Elt Ideal) ℓ)
    (hpre : Cert.Pre_KernelIdeal_finite m) (c : Dev Cert.KernelIdeal.nD) :
    Cert.ReferenceIdeal.Read.val_main_v78 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      = Cert.KernelIdeal.Body.OUT m c := by
  obtain ⟨hx, hL, hg, hb, hw, hd, hg', hb', hw'⟩ := Cert.Pre_finite.Pure.real_of_finite _ _ _ _ _ _ _ _ _ _ (hpre c)
  choose X hX using hx
  choose M hM using hL
  choose G hG using hg
  choose B hB using hb
  choose W hW using hw
  choose D hD using hd
  choose G' hG' using hg'
  choose B' hB' using hb'
  choose W' hW' using hw'
  have h : Cert.KernelIdeal.Pure.Holds m c (fun r k => X (ix2 r k)) (fun r k => M (ix2 r k)) (fun k => G (ix1 k))
      (fun k => B (ix1 k)) (fun k j l => W (ix3 k j l)) (fun k => D (ix1 k)) (fun k => G' (ix1 k)) (fun k => B' (ix1 k))
      (fun k j l => W' (ix3 k j l)) :=
    ⟨fun r k => hX _, fun r k => hM _, fun k => hG _, fun k => hB _, fun k j l => hW _, fun k => hD _, fun k => hG' _,
      fun k => hB' _, fun k j l => hW' _⟩
  refine funext fun (i : Cert.KernelIdeal.S4096x128.Idx) => ?_
  rw [eq_ix2 i]
  exact (Cert.ReferenceIdeal.Pure.result_real _ _ _ _ _ _ _ _ _ _ _ _ _ _ _ _ _ _ _ h.x h.lap h.g h.b h.w h.d h.g' h.b'
    h.w' (i 0) (i 1)).trans (Cert.KernelIdeal.Pure.OUT_real h (i 0) (i 1)).symm

/-- The kernel and the reference end with one result. -/
theorem algebraic : Cert.algebraic_KernelIdeal_ReferenceIdeal_pre_finite := fun m g m' g' hpre hagree => by
  refine ⟨fun c => Cert.KernelIdeal.Body.OUT m c, ?_, ?_⟩
  · refine (θ_run Cert.KernelIdeal.defs _ _).mono (fun r h c => ⟨?_, h.2.1 c⟩)
      (θ_run_and (Cert.KernelIdeal.Body.run_all m g) (Cert.KernelIdeal.Body.frame m g))
    exact ((h.1.1 c).1 10).trans (Cert.KernelIdeal.Pure.out_array m c)
  · refine (θ_run Cert.ReferenceIdeal.defs _ _).mono (fun r h c => ⟨?_, (h c).2⟩)
      (Cert.ReferenceIdeal.Value.run (F := Ideal) m' g')
    obtain ⟨e0, e1, e2, e3, e4, e5, e6, e7, e8, e9⟩ := hagree c
    refine ((h c).1.trans (Cert.ReferenceIdeal.Read.val_main_v78_eq (F := Ideal) (StableHlo.launchContents m' c))).trans ?_
    rw [StableHlo.launchContents_devRef, StableHlo.launchContents_devRef, StableHlo.launchContents_devRef,
      StableHlo.launchContents_devRef, StableHlo.launchContents_devRef, StableHlo.launchContents_devRef,
      StableHlo.launchContents_devRef, StableHlo.launchContents_devRef, StableHlo.launchContents_devRef,
      StableHlo.launchContents_devRef, e0, e1, e2, e3, e4, e5, e6, e7, e8, e9]
    exact result_eq m hpre c

theorem claim : Cert.Claim :=
  ⟨Cert.Kernel.Gen.facts, Cert.KernelIdeal.Gen.facts, Cert.ReferenceIdeal.Gen.facts, Cert.Pre_finite.Gen.facts,
    frame_kernel, frame_kernelIdeal, fun m ρ _ => Cert.KernelIdeal.Body.frame m ρ, frame_referenceIdeal,
    fun m ρ _ => frame_referenceIdeal m ρ trivial, trivial, algebraic⟩

end Cert.Proof

end
